-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_labelled [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_labelled [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_labelled : Cert.Pre_finite_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_ReferenceIdeal (hReferenceIdeal := hReferenceIdeal)
    ∧ quiescent_ReferenceIdeal_pre_finite_and_labelled (hReferenceIdeal := hReferenceIdeal) (hPre_finite_and_labelled := hPre_finite_and_labelled)
    ∧ preserves_Kernel_KernelIdeal
    ∧ algebraic_KernelIdeal_ReferenceIdeal_pre_finite_and_labelled (hKernelIdeal := hKernelIdeal) (hReferenceIdeal := hReferenceIdeal) (hPre_finite_and_labelled := hPre_finite_and_labelled)
-- ==== Pre_finite_and_labelled.lean ====
abbrev S4x1048576x5 : Shape := ⟨3, ![4, 1048576, 5]⟩
abbrev S1048576 : Shape := ⟨1, ![1048576]⟩
abbrev S_ : Shape := ⟨0, ![]⟩

class Facts : Prop where
  bcast_S_S4x1048576x5 : S_.BroadcastsInDim S4x1048576x5 (![] : Fin 0 → Fin S4x1048576x5.rank)
  reducesTo_S4x1048576x5_S_d0_1_2 : S4x1048576x5.ReducesTo [0, 1, 2] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S4x1048576x5 .f32) (main_arg1 : IVec S1048576 32) : IVec S_ 1 :=
  let main_v0 : FVec F S4x1048576x5 .f32 := Host.absf main_arg0
  let main_cst : FVec F S_ .f32 := constant S_ .f32 0x7F800000#32
  let main_v1 : FVec F S4x1048576x5 .f32 := broadcastInDim S4x1048576x5 ![] bcast_S_S4x1048576x5 main_cst
  let main_v2 : IVec S4x1048576x5 1 := cmpf .olt main_v0 main_v1
  let main_c : IVec S_ 1 := constantI S_ 1 1#1
  let main_v3 : IVec S_ 1 := (fun x v => Host.reduce IntOp.andi x v reducesTo_S4x1048576x5_S_d0_1_2 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg1 main_v4
  let main_c_1 : IVec S_ 32 := constantI S_ 32 5#32
  let main_v6 : IVec S1048576 32 := broadcastInDim S1048576 ![] bcast_S_S1048576 main_c_1
  let main_v7 : IVec S1048576 1 := cmpi .slt main_arg1 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S4x1048576x5 : Shape := ⟨3, ![4, 1048576, 5]⟩
abbrev S1048576 : Shape := ⟨1, ![1048576]⟩
abbrev S4x8192x640 : Shape := ⟨3, ![4, 8192, 640]⟩
abbrev S1048576x5 : Shape := ⟨2, ![1048576, 5]⟩
abbrev S5242880 : Shape := ⟨1, ![5242880]⟩
abbrev S8192x640 : Shape := ⟨2, ![8192, 640]⟩
abbrev S8x1x640 : Shape := ⟨3, ![8, 1, 640]⟩
abbrev S4x256x640 : Shape := ⟨3, ![4, 256, 640]⟩
abbrev S256x640 : Shape := ⟨2, ![256, 640]⟩
abbrev S1x1x640 : Shape := ⟨3, ![1, 1, 640]⟩
abbrev S1x640 : Shape := ⟨2, ![1, 640]⟩
abbrev S1x256x640 : Shape := ⟨3, ![1, 256, 640]⟩
abbrev S256 : Shape := ⟨1, ![256]⟩
abbrev S256x1 : Shape := ⟨2, ![256, 1]⟩
abbrev S640 : Shape := ⟨1, ![640]⟩
abbrev S_ : Shape := ⟨0, ![]⟩
abbrev S1 : Shape := ⟨1, ![1]⟩

abbrev nBuf : Space → Nat
  | .hbm => 12
  | .vmem => 6
  | .smem => 0
  | _ => 0

abbrev bufTy : (tb : Table) → Fin (tcTables nBuf tb) → BufTy
  | .hbm, ⟨0, _⟩ => ⟨S4x1048576x5, .f32⟩
  | .hbm, ⟨1, _⟩ => ⟨S1048576, .i32⟩
  | .hbm, ⟨2, _⟩ => ⟨S4x8192x640, .f32⟩
  | .hbm, ⟨3, _⟩ => ⟨S1048576x5, .i32⟩
  | .hbm, ⟨4, _⟩ => ⟨S5242880, .i32⟩
  | .hbm, ⟨5, _⟩ => ⟨S8192x640, .i32⟩
  | .hbm, ⟨6, _⟩ => ⟨S8x1x640, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S4x256x640, .f32⟩
  | .local _ .vmem, ⟨1, _⟩ => ⟨S4x256x640, .f32⟩
  | .local _ .vmem, ⟨2, _⟩ => ⟨S256x640, .i32⟩
  | .local _ .vmem, ⟨3, _⟩ => ⟨S256x640, .i32⟩
  | .local _ .vmem, ⟨4, _⟩ => ⟨S1x1x640, .f32⟩
  | .local _ .vmem, ⟨5, _⟩ => ⟨S1x1x640, .f32⟩
  | _, _ => ⟨S4x1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S4x1048576x5 : Shape := ⟨3, ![4, 1048576, 5]⟩
abbrev S1048576 : Shape := ⟨1, ![1048576]⟩
abbrev S5 : Shape := ⟨1, ![5]⟩
abbrev S_ : Shape := ⟨0, ![]⟩
abbrev S4x1048576 : Shape := ⟨2, ![4, 1048576]⟩
abbrev S4x1048576x1 : Shape := ⟨3, ![4, 1048576, 1]⟩
abbrev S1x1048576x1 : Shape := ⟨3, ![1, 1048576, 1]⟩
abbrev S4x1048576x1x1 : Shape := ⟨4, ![4, 1048576, 1, 1]⟩
abbrev S1 : Shape := ⟨1, ![1]⟩
abbrev S1x1x1x1 : Shape := ⟨4, ![1, 1, 1, 1]⟩
abbrev S1048576x1 : Shape := ⟨2, ![1048576, 1]⟩
abbrev S1x1048576 : Shape := ⟨2, ![1, 1048576]⟩
abbrev S4 : Shape := ⟨1, ![4]⟩

abbrev nBuf : Space → Nat
  | .hbm => 86
  | .vmem => 0
  | .smem => 0
  | _ => 0

abbrev bufTy : (tb : Table) → Fin (tcTables nBuf tb) → BufTy
  | .hbm, ⟨0, _⟩ => ⟨S4x1048576x5, .f32⟩
  | .hbm, ⟨1, _⟩ => ⟨S1048576, .i32⟩
  | .hbm, ⟨2, _⟩ => ⟨S5, .i32⟩
  | .hbm, ⟨3, _⟩ => ⟨S_, .f32⟩
  | .hbm, ⟨4, _⟩ => ⟨S4x1048576, .f32⟩
  | .hbm, ⟨5, _⟩ => ⟨S_, .f32⟩
  | .hbm, ⟨6, _⟩ => ⟨S4x1048576, .f32⟩
  | .hbm, ⟨7, _⟩ => ⟨S4x1048576, .f32⟩
  | .hbm, ⟨8, _⟩ => ⟨S4x1048576x1, .f32⟩
  | .hbm, ⟨9, _⟩ => ⟨S4x1048576x5, .f32⟩
  | .hbm, ⟨10, _⟩ => ⟨S4x1048576x5, .f32⟩
  | .hbm, ⟨11, _⟩ => ⟨S4x1048576x5, .f32⟩
  | .hbm, ⟨12, _⟩ => ⟨S_, .f32⟩
  | .hbm, ⟨13, _⟩ => ⟨S4x1048576, .f32⟩
  | .hbm, ⟨14, _⟩ => ⟨S4x1048576x1, .f32⟩
  | .hbm, ⟨15, _⟩ => ⟨S4x1048576x1, .f32⟩
  | .hbm, ⟨16, _⟩ => ⟨S4x1048576x5, .f32⟩
  | .hbm, ⟨17, _⟩ => ⟨S4x1048576x5, .f32⟩
  | .hbm, ⟨18, _⟩ => ⟨S1x1048576x1, .i32⟩
  | .hbm, ⟨19, _⟩ => ⟨S4x1048576x1, .i32⟩
  | .hbm, ⟨20, _⟩ => ⟨S_, .i32⟩
  | .hbm, ⟨21, _⟩ => ⟨S4x1048576x1, .i32⟩
  | .hbm, ⟨22, _⟩ => ⟨S4x1048576x1, .i1⟩
  | .hbm, ⟨23, _⟩ => ⟨S_, .i32⟩
  | .hbm, ⟨24, _⟩ => ⟨S4x1048576x1, .i32⟩
  | .hbm, ⟨25, _⟩ => ⟨S4x1048576x1, .i32⟩
  | .hbm, ⟨26, _⟩ => ⟨S4x1048576x1, .i32⟩
  | .hbm, ⟨27, _⟩ => ⟨S4x1048576x1x1, .i32⟩
  | .hbm, ⟨28, _⟩ => ⟨S1, .i32⟩
  | .hbm, ⟨29, _⟩ => ⟨S_, .i32⟩
  | .hbm, ⟨30, _⟩ => ⟨S4x1048576x1x1, .i32⟩
  | .hbm, ⟨31, _⟩ => ⟨S4x1048576x1x1, .i1⟩
  | .hbm, ⟨32, _⟩ => ⟨S1x1x1x1, .i32⟩
  | .hbm, ⟨33, _⟩ => ⟨S4x1048576x1x1, .i32⟩
  | .hbm, ⟨34, _⟩ => ⟨S4x1048576x1x1, .i1⟩
  | .hbm, ⟨35, _⟩ => ⟨S4x1048576x1x1, .i1⟩
  | .hbm, ⟨36, _⟩ => ⟨S_, .i1⟩
  | .hbm, ⟨37, _⟩ => ⟨S4x1048576x1, .i1⟩
  | .hbm, ⟨38, _⟩ => ⟨S4x1048576x1, .f32⟩
  | .hbm, ⟨39, _⟩ => ⟨S_, .f32⟩
  | .hbm, ⟨40, _⟩ => ⟨S4x1048576x1, .f32⟩
  | .hbm, ⟨41, _⟩ => ⟨S4x1048576x1, .f32⟩
  | .hbm, ⟨42, _⟩ => ⟨S4x1048576, .f32⟩
  | .hbm, ⟨43, _⟩ => ⟨S4x1048576, .f32⟩
  | .hbm, ⟨44, _⟩ => ⟨S4x1048576x5, .i32⟩
  | .hbm, ⟨45, _⟩ => ⟨S_, .f32⟩
  | .hbm, ⟨46, _⟩ => ⟨S_, .i32⟩
  | .hbm, ⟨47, _⟩ => ⟨S4x1048576, .f32⟩
  | .hbm, ⟨48, _⟩ => ⟨S4x1048576, .i32⟩
  | .hbm, ⟨49, _⟩ => ⟨S_, .i32⟩
  | .hbm, ⟨50, _⟩ => ⟨S1048576, .i32⟩
  | .hbm, ⟨51, _⟩ => ⟨S1048576, .i1⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S1048576, .i32⟩
  | .hbm, ⟨56, _⟩ => ⟨S1048576x1, .i32⟩
  | .hbm, ⟨57, _⟩ => ⟨S1048576, .i32⟩
  | .hbm, ⟨58, _⟩ => ⟨S1x1048576, .i32⟩
  | .hbm, ⟨59, _⟩ => ⟨S_, .i32⟩
  | .hbm, ⟨60, _⟩ => ⟨S4x1048576, .i32⟩
  | .hbm, ⟨61, _⟩ => ⟨S4x1048576, .i1⟩
  | .hbm, ⟨62, _⟩ => ⟨S_, .i32⟩
  | .hbm, ⟨63, _⟩ => ⟨S4x1048576, .i32⟩
  | .hbm, ⟨64, _⟩ => ⟨S4x1048576, .i32⟩
  | .hbm, ⟨65, _⟩ => ⟨S4x1048576, .i32⟩
  | .hbm, ⟨66, _⟩ => ⟨S4x1048576x1, .i32⟩
  | .hbm, ⟨67, _⟩ => ⟨S4x1048576, .i32⟩
  | .hbm, ⟨68, _⟩ => ⟨S4x1048576, .i32⟩
  | .hbm, ⟨69, _⟩ => ⟨S4x1048576, .i1⟩
  | .hbm, ⟨70, _⟩ => ⟨S4x1048576, .f32⟩
  | .hbm, ⟨71, _⟩ => ⟨S_, .f32⟩
  | .hbm, ⟨72, _⟩ => ⟨S4x1048576, .f32⟩
  | .hbm, ⟨73, _⟩ => ⟨S4x1048576, .f32⟩
  | .hbm, ⟨74, _⟩ => ⟨S_, .f32⟩
  | .hbm, ⟨75, _⟩ => ⟨S4x1048576, .f32⟩
  | .hbm, ⟨76, _⟩ => ⟨S4x1048576, .f32⟩
  | .hbm, ⟨77, _⟩ => ⟨S4x1048576, .f32⟩
  | .hbm, ⟨78, _⟩ => ⟨S_, .f32⟩
  | .hbm, ⟨79, _⟩ => ⟨S4, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S_, .f32⟩
  | .hbm, ⟨84, _⟩ => ⟨S_, .f32⟩
  | .hbm, ⟨85, _⟩ => ⟨S1, .f32⟩
  | _, _ => ⟨S4x1048576x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call2_v0 : Ref sig .tc := ⟨.hbm, 44, rfl⟩
abbrev main_call2_cst : Ref sig .tc := ⟨.hbm, 45, rfl⟩
abbrev main_call2_c : Ref sig .tc := ⟨.hbm, 46, rfl⟩
abbrev main_call2_v1_0 : Ref sig .tc := ⟨.hbm, 47, rfl⟩
abbrev main_v6 : Ref sig .tc := ⟨.hbm, 48, rfl⟩
abbrev main_c_0 : Ref sig .tc := ⟨.hbm, 49, rfl⟩
abbrev main_v7 : Ref sig .tc := ⟨.hbm, 50, rfl⟩
abbrev main_v8 : Ref sig .tc := ⟨.hbm, 51, rfl⟩
abbrev main_c_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_c_2 : Ref sig .tc := ⟨.hbm, 59, rfl⟩
abbrev main_v15 : Ref sig .tc := ⟨.hbm, 60, rfl⟩
abbrev main_v16 : Ref sig .tc := ⟨.hbm, 61, rfl⟩
abbrev main_c_3 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst : Ref sig .tc := ⟨.hbm, 71, rfl⟩
abbrev main_v25 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_5 : Ref sig .tc := ⟨.hbm, 78, rfl⟩
abbrev main_v30 : Ref sig .tc := ⟨.hbm, 79, rfl⟩
abbrev main_cst_6 : Ref sig .tc := ⟨.hbm, 80, rfl⟩
abbrev main_v31 : Ref sig .tc := ⟨.hbm, 81, rfl⟩
abbrev main_v32 : Ref sig .tc := ⟨.hbm, 82, rfl⟩
abbrev main_cst_7 : Ref sig .tc := ⟨.hbm, 83, rfl⟩
abbrev main_v33 : Ref sig .tc := ⟨.hbm, 84, rfl⟩
abbrev main_v34 : Ref sig .tc := ⟨.hbm, 85, rfl⟩

abbrev nD : Nat := 1
abbrev τ : Topo := Topo.v7x

variable {F : FTy → Type} [FloatOps F]
-- ==== Proof.Body.lean ====
/-
  What the kernel's body leaves in the output's staging buffer at a grid point, as one function of the point's two
  input blocks and of what the buffer held: the four prediction sets' contributions added, summed over the
  block's rows, and added to the buffer (`step`). The first of every four points starts from zeros.
-/
module

public import proofs.«01_k».proof.Proof.Gen.KernelIdeal.Frame
public import Idealize.ShloMosaic.Lib.Pipeline.Value
public import Idealize.ShloMosaic.Lib.Tactic

@[expose] public section

noncomputable section

namespace Cert.Proof.Body

open Cert.KernelIdeal Cert.KernelIdeal.Gen
open Idealize.ShloMosaic Idealize.ShloMosaic.TcCoe Idealize.SL.Sem

variable {F : FTy → Type} [FloatOps F]

/-- Prediction set `t` of a block of scores. -/
def head (x : Vec F S4x256x640 .f32) (t : ℕ) (h : ∀ a, (![t, 0, 0] : Fin 3 → ℕ) a + S1x256x640.size a ≤ S4x256x640.size a) :
    Vec F S1x256x640 .f32 :=
  View.ld x (Rect.unit (s := S4x256x640) ![t, 0, 0] S1x256x640.size h)

/-- One prediction set's contributions, lane by lane: the weighted cross entropy on the lanes that start a sample,
    zero on the others. -/
def contrib (y : Vec F S256x640 .i32) (b : Vec F S1x256x640 .f32) : FVec F S256x640 .f32 :=
  k0_pay12 (k0_pay1 y) k0_pay2 (k0_pay3 y) (k0_pay4 b) (k0_pay6 b) (k0_pay7 b) (k0_pay8 b) (k0_pay9 b) (k0_pay10 b)
    (k0_pay11 b)

/-- The four prediction sets' contributions, added. -/
def contribs (x : Vec F S4x256x640 .f32) (y : Vec F S256x640 .i32) : FVec F S256x640 .f32 :=
  addf (addf (addf (contrib y (head x 0 inb_S4x256x640_S1x256x640_0_0_0)) (contrib y (head x 1 inb_S4x256x640_S1x256x640_1_0_0)))
    (contrib y (head x 2 inb_S4x256x640_S1x256x640_2_0_0))) (contrib y (head x 3 inb_S4x256x640_S1x256x640_3_0_0))

/-- The buffer after the body: what it held plus the contributions summed over the rows. -/
def step (x : Vec F S4x256x640 .f32) (y : Vec F S256x640 .i32) (acc : Vec F S1x1x640 .f32) : Vec F S1x1x640 .f32 :=
  shapeCast S1x1x640
    (addf (shapeCast S1x640 acc shapeCasts_S1x1x640_S1x640)
      (shapeCast S1x640 (multiReduction .add [0] S640 (contribs x y) 0x00000000#32 reduces_S256x640_S640 (.inl rfl) rfl)
        shapeCasts_S640_S1x640))
    shapeCasts_S1x640_S1x1x640

theorem hz3 : (![0, 0, 0] : Fin 3 → ℕ) = fun _ => 0 := funext fun a => by fin_cases a <;> rfl
theorem hz2 : (![0, 0] : Fin 2 → ℕ) = fun _ => 0 := funext fun a => by fin_cases a <;> rfl

/-- At a point that is not the first of its four, the body adds to what the buffer held. -/
theorem out_B (c : Dev nD) (i : grid0.Coords) (a2 : Memref sig .tc .vmem S4x256x640 .f32) (h2 : a2.IsWhole)
    (a3 : Memref sig .tc .vmem S256x640 .i32) (h3 : a3.IsWhole) (a4 : Memref sig .tc .vmem S1x1x640 .f32) (h4 : a4.IsWhole)
    (hc : ¬cond0_0 i) (x : Vec F S4x256x640 .f32) (y : Vec F S256x640 .i32) (o : Vec F S1x1x640 .f32) :
    out0_B_2 c i a2 h2 a3 h3 a4 h4 hc x y o = step x y o := by
  unfold out0_B_2
  rw [View.read_writes_eq_canon _ _ _ (cover0_B_2 c i a2 h2 a3 h3 a4 h4 hc x y o)]
  unfold kernelRun0_B
  dsimp only
  sl_unfold_words
  rw [View.canon_unit_zero hz3]
  simp only [View.readAt_eq_ld, h2.read_unread, h3.read_unread, h4.read_unread, View.ld_unit_zero (S := S1x1x640) hz3,
    View.ld_unit_zero (S := S256x640) hz2]
  rfl

/-- At the first of every four points, it adds to zeros. -/
theorem out_A (c : Dev nD) (i : grid0.Coords) (a2 : Memref sig .tc .vmem S4x256x640 .f32) (h2 : a2.IsWhole)
    (a3 : Memref sig .tc .vmem S256x640 .i32) (h3 : a3.IsWhole) (a4 : Memref sig .tc .vmem S1x1x640 .f32) (h4 : a4.IsWhole)
    (hc : cond0_0 i) (x : Vec F S4x256x640 .f32) (y : Vec F S256x640 .i32) :
    out0_A_2 c i a2 h2 a3 h3 a4 h4 hc x y = step x y k0_pay43 := by
  unfold out0_A_2
  rw [View.read_writes_eq_canon _ _ _ (cover0_A_2 c i a2 h2 a3 h3 a4 h4 hc x y)]
  unfold kernelRun0_A
  dsimp only
  sl_unfold_words
  rw [View.canon_cons_unit_zero (S := S1x1x640) hz3]
  simp only [View.readCov_unit_zero (S := S1x1x640) _ hz3, View.readAt_eq_ld, h2.read_unread, h3.read_unread,
    View.ld_unit_zero (S := S256x640) hz2]
  rfl

end Cert.Proof.Body

end
-- ==== Proof.Spec.lean ====
/-
  The number both programs compute, on real scores and labels in 0 .. 4: per prediction set and sample the cross entropy
  of five scores at a label, times one and a half when the group of the class with the largest score is not the
  label's group; summed over everything and divided by the number of samples.
-/
module

public import Idealize.ShloMosaic.Lib.ValueIdx
public import Mathlib.Analysis.SpecialFunctions.Log.Basic

@[expose] public section

noncomputable section

namespace Cert.Proof.Spec

open Idealize.ShloMosaic

/-- The logarithm of the sum of the exponentials of five scores. -/
def lse (v : Fin 5 → ℝ) : ℝ := Real.log (∑ c, Real.exp (v c))

/-- A class's group. -/
def grp : Fin 5 → BitVec 32 := ![2#32, 1#32, 1#32, 0#32, 0#32]

open Classical in
/-- The group of the first class with the largest score: 2 if class 0 has it, else 1 if class 1 or 2 has it, else 0. -/
def predGrp (v : Fin 5 → ℝ) : BitVec 32 :=
  if ∀ c, v c ≤ v 0 then 2#32 else if ∀ c, v c ≤ max (v 1) (v 2) then 1#32 else 0#32

/-- One and a half if the groups differ, else one. -/
def wt (v : Fin 5 → ℝ) (k : Fin 5) : ℝ := if predGrp v = grp k then 1 else 3 / 2

/-- One sample's weighted cross entropy in one prediction set. -/
def term (v : Fin 5 → ℝ) (k : Fin 5) : ℝ := wt v k * (lse v - v k)

/-- The number computed. -/
def result (X : Fin 4 → Fin 1048576 → Fin 5 → ℝ) (Y : Fin 1048576 → Fin 5) : ℝ :=
  (∑ b, ∑ t, term (X t b) (Y b)) / 1048576

/-- A sum of exponentials is positive. -/
theorem sum_exp_pos (v : Fin 5 → ℝ) : 0 < ∑ c, Real.exp (v c) :=
  Finset.sum_pos (fun c _ => Real.exp_pos _) ⟨0, Finset.mem_univ _⟩

/-- Any number may be taken off the scores first and added back after. -/
theorem log_shift (v : Fin 5 → ℝ) (M : ℝ) : Real.log (∑ c, Real.exp (v c - M)) + M = lse v := by
  have h : ∑ c, Real.exp (v c) = (∑ c, Real.exp (v c - M)) * Real.exp M := by
    rw [Finset.sum_mul]
    exact Finset.sum_congr rfl fun c _ => by rw [← Real.exp_add, sub_add_cancel]
  unfold lse
  rw [h, Real.log_mul (sum_exp_pos fun c => v c - M).ne' (Real.exp_pos M).ne', Real.log_exp]

/-- The largest of the five, as the kernel's tree of maxima takes it. -/
def top (v : Fin 5 → ℝ) : ℝ := max (v 0) (max (max (v 1) (v 2)) (max (v 3) (v 4)))

theorem forall_le_iff (v : Fin 5 → ℝ) (z : ℝ) : (∀ c, v c ≤ z) ↔ top v ≤ z := by
  unfold top
  simp only [max_le_iff]
  refine ⟨fun h => ⟨h 0, ⟨h 1, h 2⟩, h 3, h 4⟩, fun ⟨h0, ⟨h1, h2⟩, h3, h4⟩ c => ?_⟩
  fin_cases c
  exacts [h0, h1, h2, h3, h4]

/-- The group, by comparing with the largest of the five. -/
theorem predGrp_eq_top (v : Fin 5 → ℝ) :
    predGrp v = if v 0 = top v then 2#32 else if max (v 1) (v 2) = top v then 1#32 else 0#32 := by
  have h0 : (∀ c, v c ≤ v 0) ↔ v 0 = top v := by
    rw [forall_le_iff]; exact ⟨fun h => le_antisymm (le_max_left _ _) h, fun h => h.ge⟩
  have h1 : (∀ c, v c ≤ max (v 1) (v 2)) ↔ max (v 1) (v 2) = top v := by
    rw [forall_le_iff]
    exact ⟨fun h => le_antisymm ((le_max_left _ _).trans (le_max_right _ _)) h, fun h => h.ge⟩
  unfold predGrp
  simp only [h0, h1]

/-- The group is the group of the first class whose score is largest. -/
theorem predGrp_eq_grp (v : Fin 5 → ℝ) (k : Fin 5) (hle : ∀ c, v c ≤ v k) (hlt : ∀ c, c < k → v c < v k) :
    predGrp v = grp k := by
  unfold predGrp
  by_cases hk0 : k = 0
  · subst hk0; rw [if_pos hle]; rfl
  · have h0 : ¬∀ c, v c ≤ v 0 := fun h => absurd (hlt 0 (Fin.pos_of_ne_zero hk0)) (not_lt.mpr (h k))
    rw [if_neg h0]
    by_cases hk : k.val ≤ 2
    · have h12 : k = 1 ∨ k = 2 := by have : k.val ≠ 0 := fun h => hk0 (Fin.ext h); rcases k with ⟨k, _⟩; simp only [Fin.ext_iff]; simp at *; omega
      have h1 : ∀ c, v c ≤ max (v 1) (v 2) := fun c => by
        rcases h12 with rfl | rfl
        · exact (hle c).trans (le_max_left _ _)
        · exact (hle c).trans (le_max_right _ _)
      rw [if_pos h1]
      rcases h12 with rfl | rfl <;> rfl
    · have h1 : ¬∀ c, v c ≤ max (v 1) (v 2) := fun h => by
        have a1 := hlt 1 (by rw [Fin.lt_def]; show 1 < k.val; omega)
        have a2 := hlt 2 (by rw [Fin.lt_def]; show 2 < k.val; omega)
        exact absurd (max_lt a1 a2) (not_lt.mpr (h k))
      rw [if_neg h1]
      have h34 : k = 3 ∨ k = 4 := by rcases k with ⟨k, _⟩; simp only [Fin.ext_iff]; simp at *; omega
      rcases h34 with rfl | rfl <;> rfl

/-- The weight as the reference spells it: one plus a half where the groups differ. -/
theorem wt_eq (v : Fin 5 → ℝ) (k : Fin 5) : wt v k = 1 + 1 / 2 * (if grp k = predGrp v then 0 else 1) := by
  unfold wt
  by_cases h : predGrp v = grp k
  · rw [if_pos h, if_pos h.symm]; norm_num
  · rw [if_neg h, if_neg (Ne.symm h)]; norm_num

/-- The maximum of finitely many reals, folded from the least extended real, is a real. -/
theorem fold_max_real {ι : Type} [Fintype ι] [Nonempty ι] (f : ι → EReal) (hf : ∀ i, ∃ r : ℝ, f i = (r : EReal)) :
    ∃ r : ℝ, (Finset.univ : Finset ι).fold max ⊥ f = (r : EReal) := by
  obtain ⟨i, _, hi⟩ := Finset.exists_mem_eq_sup (Finset.univ : Finset ι) Finset.univ_nonempty f
  obtain ⟨r, hr⟩ := hf i
  exact ⟨r, (show (Finset.univ : Finset ι).fold max ⊥ f = Finset.univ.sup f from rfl).trans (hi.trans hr)⟩

/-- The sum of five extended reals that are reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_neg_inf : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_three_halves : Ideal.ofBits .f32 0x3FC00000#32 = ((3 / 2 : ℝ) : EReal) := by
  simp [Ideal.ofBits, Ideal.ieee, -EReal.coe_mul]; norm_num
theorem ofBits_batch : Ideal.ofBits .f32 0x49800000#32 = ((1048576 : ℝ) : EReal) := by
  simp [Ideal.ofBits, Ideal.ieee, -EReal.coe_mul]; norm_num

end Cert.Proof.Spec

end
-- ==== Proof.Lane.lean ====
/-
  One prediction set's contributions read lane by lane. A lane holds one class of one sample: lane `5 q + c` is class `c`
  of the row's sample `q`. On a lane of class 0 the contribution is the sample's weighted cross entropy, on the others zero.
-/
module

public import proofs.«01_k».proof.Proof.Body
public import proofs.«01_k».proof.Proof.Spec
public import Idealize.ShloMosaic.Lib.KernelVsHost

@[expose] public section

noncomputable section

namespace Cert.Proof.Lane

open Cert.KernelIdeal Cert.KernelIdeal.Gen Cert.Proof.Body Cert.Proof.Spec
open Idealize.ShloMosaic Idealize.ShloMosaic.ValueIdx

/-- The lane of class `c` of sample `q`. -/
def lane (q : Fin 128) (c : Fin 5) : Fin 640 := ⟨5 * q.val + c.val, by omega⟩

/-- Rotating the lanes by `640 - e` brings class `e` to class 0's lane. -/
theorem rot_apply {α : Type} (x : S256x640.Idx → α) (sb : BitVec 32) (r : Fin 256) (q : Fin 128) (e : Fin 5) (he : 0 < e.val)
    (hs : sb.toNat = 640 - e.val) (h : S256x640.Rotates 1 none) :
    dynamicRotate 1 sb none x h (ix2 r (lane q 0)) = x (ix2 r (lane q e)) := by
  refine dynamicRotate_apply 1 sb x h _ _ fun b => ?_
  match b with
  | ⟨0, _⟩ => rfl
  | ⟨1, _⟩ =>
    show 5 * q.val + e.val = if (1 : Fin 2) = 1 then (5 * q.val + 0 + 640 - sb.toNat % 640) % 640 else _
    rw [if_pos rfl, hs]
    omega

/-- The mask keeps the lanes of class 0. -/
theorem mask_apply (r : Fin 256) (l : Fin 640) :
    broadcastTo S256x640 (shapeCast S1x640 k0_pay2 shapeCasts_S1x640_S1x640) broadcasts_S1x640_S256x640 (ix2 r l)
      = if l.val % 5 = 0 then 1#1 else 0#1 := by
  have hl : ∀ l : Fin 640, IntOp.cmpi .eq (IntOp.remsi .vector (BitVec.ofNat 32 l.val) 5#32) 0#32
      = if l.val % 5 = 0 then 1#1 else 0#1 := by decide +kernel
  rw [shapeCast_self]
  refine (broadcastTo_apply _ _ _ (ix2 (0 : Fin 1) l) fun a => ?_).trans ?_
  · match a with
    | ⟨0, _⟩ => rfl
    | ⟨1, _⟩ => rfl
  · rw [← hl l]
    show IntOp.cmpi .eq (IntOp.remsi .vector (iota .tc S1x640 32 [1] iota_S1x640_d1_w32 (ix2 (0 : Fin 1) l)) 5#32) 0#32 = _
    rw [iota_single_apply]

/-- A block without its unit axis. -/
theorem pay4_apply (b : Vec Ideal S1x256x640 .f32) (r : Fin 256) (l : Fin 640) :
    k0_pay4 b (ix2 r l) = b (ix3 (0 : Fin 1) r l) := by
  refine (shapeCast_dropUnit_apply ![256, 640] b shapeCasts_S1x256x640_S256x640 (ix2 r l)).trans (congrArg b ?_)
  funext a
  match a with
  | ⟨0, _⟩ => rfl
  | ⟨1, _⟩ => rfl
  | ⟨2, _⟩ => rfl

/-- The row's maximum, on every lane of the row, is a real. -/
theorem rowMax (b : Vec Ideal S1x256x640 .f32) (hb : ∀ i, ∃ z : ℝ, b i = (z : EReal)) (r : Fin 256) :
    ∃ M : ℝ, ∀ l : Fin 640, k0_pay11 b (ix2 r l) = (M : EReal) := by
  obtain ⟨M, hM⟩ := fold_max_real (fun k : Fin 640 => k0_pay4 b (reduces_S256x640_S256.lift (ix1 r) k))
    fun k => ⟨_, ((congrArg (k0_pay4 b) (eq_ix2 _)).trans (pay4_apply b _ _)).trans (hb _).choose_spec⟩
  refine ⟨M, fun l => ?_⟩
  refine (broadcastTo_apply (k0_pay5 b) broadcasts_S256x1_S256x640 _ (ix2 r (0 : Fin 1)) fun a => ?_).trans ?_
  · match a with
    | ⟨0, _⟩ => rfl
    | ⟨1, _⟩ => rfl
  show shapeCast S256x1 (multiReduction .maximumf [1] S256 (k0_pay4 b) 0xFF800000#32 reduces_S256x640_S256 (.inl rfl) rfl)
    shapeCasts_S256_S256x1 (ix2 r (0 : Fin 1)) = _
  rw [shapeCast_apply _ shapeCasts_S256_S256x1 (ix2 r (0 : Fin 1)) (ix1 r)
    (by rw [Shape.rowMajor_val_two, Shape.rowMajor_val_one]; show r.val = r.val * 1 + 0; omega)]
  refine (Ideal.multiReduction_maximumf_single (k0_pay4 b) 0xFF800000#32 reduces_S256x640_S256 (.inl rfl) rfl (ix1 r)).trans
    (Eq.trans ?_ hM)
  show Finset.fold max (Ideal.ofBits .f32 0xFF800000#32) _ _ = _
  rw [ofBits_neg_inf]
  rfl

/-- The exponentials of the scores less the row's maximum. -/
def ex (b : Vec Ideal S1x256x640 .f32) : FVec Ideal S256x640 .f32 := exp (subf (k0_pay4 b) (k0_pay11 b))

/-- Choosing by comparing the label with 1, 2, 3, 4 in turn. -/
theorem pick_eq (k : Fin 5) (u : Fin 5 → EReal) :
    Scalar.select (IntOp.cmpi .eq (BitVec.ofNat 32 k.val) 4#32) (u 4)
      (Scalar.select (IntOp.cmpi .eq (BitVec.ofNat 32 k.val) 3#32) (u 3)
        (Scalar.select (IntOp.cmpi .eq (BitVec.ofNat 32 k.val) 2#32) (u 2)
          (Scalar.select (IntOp.cmpi .eq (BitVec.ofNat 32 k.val) 1#32) (u 1) (u 0)))) = u k := by
  fin_cases k <;> rfl

/-- The label's group by two comparisons. -/
theorem grp_eq (k : Fin 5) :
    Scalar.select (IntOp.cmpi .eq (BitVec.ofNat 32 k.val) 0#32) 2#32
      (Scalar.select (IntOp.cmpi .sle (BitVec.ofNat 32 k.val) 2#32) 1#32 0#32) = grp k := by
  fin_cases k <;> rfl

theorem select_ofBool {α : Type} (p : Prop) [Decidable p] (a b : α) :
    Scalar.select (BitVec.ofBool (decide p)) a b = if p then a else b := by
  by_cases h : p <;> simp [h, Scalar.select]

theorem select_ne {α : Type} (x y : BitVec 32) (a b : α) :
    Scalar.select (IntOp.cmpi .ne x y) a b = if x = y then b else a := by
  show Scalar.select (BitVec.ofBool (x != y)) a b = _
  by_cases h : x = y
  · subst h; simp [Scalar.select]
  · rw [if_neg h, show (x != y) = true from bne_iff_ne.mpr h]; rfl

/-- The predicted class's group by two comparisons with the largest score. -/
theorem predGrp_select (v : Fin 5 → ℝ) :
    Scalar.select (Ideal.cmp .oeq ((v 0 : ℝ) : EReal) ((max (v 0) (max (max (v 1) (v 2)) (max (v 3) (v 4))) : ℝ) : EReal)) 2#32
      (Scalar.select (Ideal.cmp .oeq ((max (v 1) (v 2) : ℝ) : EReal)
        ((max (v 0) (max (max (v 1) (v 2)) (max (v 3) (v 4))) : ℝ) : EReal)) 1#32 0#32) = predGrp v := by
  rw [predGrp_eq_top, show max (v 0) (max (max (v 1) (v 2)) (max (v 3) (v 4))) = top v from rfl]
  show Scalar.select (BitVec.ofBool (decide _)) _ (Scalar.select (BitVec.ofBool (decide _)) _ _) = _
  rw [select_ofBool, select_ofBool]
  simp only [EReal.coe_eq_coe_iff]

/-- On a lane that does not start a sample the contribution is zero. -/
theorem contrib_off (y : Vec Ideal S256x640 .i32) (b : Vec Ideal S1x256x640 .f32) (r : Fin 256) (q : Fin 128) (c : Fin 5)
    (hc : c ≠ 0) : contrib y b (ix2 r (lane q c)) = 0 := by
  show Scalar.select (broadcastTo S256x640 (shapeCast S1x640 k0_pay2 shapeCasts_S1x640_S1x640)
    broadcasts_S1x640_S256x640 (ix2 r (lane q c))) _ (Ideal.ofBits .f32 0x00000000#32) = 0
  rw [mask_apply, if_neg, select_zero, Ideal.ofBits_zero_f32]
  show ¬(5 * q.val + c.val) % 5 = 0
  have : c.val ≠ 0 := fun h => hc (Fin.ext h)
  omega

/-- On the lane that starts a sample it is the sample's weighted cross entropy. -/
theorem contrib_base (y : Vec Ideal S256x640 .i32) (b : Vec Ideal S1x256x640 .f32) (hb : ∀ i, ∃ z : ℝ, b i = (z : EReal))
    (r : Fin 256) (q : Fin 128) (u : Fin 5 → ℝ) (k : Fin 5) (hu : ∀ c, b (ix3 (0 : Fin 1) r (lane q c)) = ((u c : ℝ) : EReal))
    (hy : y (ix2 r (lane q 0)) = BitVec.ofNat 32 k.val) :
    contrib y b (ix2 r (lane q 0)) = ((term u k : ℝ) : EReal) := by
  obtain ⟨M, hM⟩ := rowMax b hb r
  have h4 : ∀ c, k0_pay4 b (ix2 r (lane q c)) = ((u c : ℝ) : EReal) := fun c => (pay4_apply b r _).trans (hu c)
  have h6 : k0_pay6 b (ix2 r (lane q 0)) = ((u 1 : ℝ) : EReal) := (rot_apply _ 639#32 r q 1 (by decide) rfl rotates_S256x640_d1).trans (h4 1)
  have h7 : k0_pay7 b (ix2 r (lane q 0)) = ((u 2 : ℝ) : EReal) := (rot_apply _ 638#32 r q 2 (by decide) rfl rotates_S256x640_d1).trans (h4 2)
  have h8 : k0_pay8 b (ix2 r (lane q 0)) = ((u 3 : ℝ) : EReal) := (rot_apply _ 637#32 r q 3 (by decide) rfl rotates_S256x640_d1).trans (h4 3)
  have h9 : k0_pay9 b (ix2 r (lane q 0)) = ((u 4 : ℝ) : EReal) := (rot_apply _ 636#32 r q 4 (by decide) rfl rotates_S256x640_d1).trans (h4 4)
  have hex : ∀ c, ex b (ix2 r (lane q c)) = ((Real.exp (u c - M) : ℝ) : EReal) := fun c => by
    show Ideal.exp (k0_pay4 b (ix2 r (lane q c)) - k0_pay11 b (ix2 r (lane q c))) = _
    rw [h4, hM, ← EReal.coe_sub, Ideal.exp_coe]
  have h10 : k0_pay10 b (ix2 r (lane q 0)) = ((Real.log (∑ c, Real.exp (u c - M)) : ℝ) : EReal) := by
    show Ideal.log (((ex b (ix2 r (lane q 0)) + dynamicRotate 1 639#32 none (ex b) rotates_S256x640_d1 (ix2 r (lane q 0)))
      + (dynamicRotate 1 638#32 none (ex b) rotates_S256x640_d1 (ix2 r (lane q 0))
        + dynamicRotate 1 637#32 none (ex b) rotates_S256x640_d1 (ix2 r (lane q 0))))
      + dynamicRotate 1 636#32 none (ex b) rotates_S256x640_d1 (ix2 r (lane q 0))) = _
    rw [rot_apply (ex b) 639#32 r q 1 (by decide) rfl, rot_apply (ex b) 638#32 r q 2 (by decide) rfl,
      rot_apply (ex b) 637#32 r q 3 (by decide) rfl, rot_apply (ex b) 636#32 r q 4 (by decide) rfl]
    simp only [hex, ← EReal.coe_add]
    have hs : ((Real.exp (u 0 - M) + Real.exp (u 1 - M)) + (Real.exp (u 2 - M) + Real.exp (u 3 - M))) + Real.exp (u 4 - M)
        = ∑ c, Real.exp (u c - M) := by rw [Fin.sum_univ_five]; ring
    rw [hs, Ideal.log_coe, if_neg (sum_exp_pos fun c => u c - M).not_ge]
  have h1 : k0_pay1 y (ix2 r (lane q 0)) = BitVec.ofNat 32 k.val := by
    show shapeCast S256x640 y shapeCasts_S256x640_S256x640 _ = _
    rw [shapeCast_self]; exact hy
  have h3 : k0_pay3 y (ix2 r (lane q 0)) = grp k := by
    show Scalar.select (IntOp.cmpi .eq (k0_pay1 y (ix2 r (lane q 0))) 0#32) 2#32
      (Scalar.select (IntOp.cmpi .sle (k0_pay1 y (ix2 r (lane q 0))) 2#32) 1#32 0#32) = _
    rw [h1]; exact grp_eq k
  let U : Fin 5 → EReal := fun c => ((u c : ℝ) : EReal)
  show Scalar.select (broadcastTo S256x640 (shapeCast S1x640 k0_pay2 shapeCasts_S1x640_S1x640)
      broadcasts_S1x640_S256x640 (ix2 r (lane q 0)))
    (Scalar.select
        (IntOp.cmpi .ne
          (Scalar.select (Ideal.cmp .oeq (k0_pay4 b (ix2 r (lane q 0)))
              (max (k0_pay4 b (ix2 r (lane q 0))) (max (max (k0_pay6 b (ix2 r (lane q 0))) (k0_pay7 b (ix2 r (lane q 0))))
                (max (k0_pay8 b (ix2 r (lane q 0))) (k0_pay9 b (ix2 r (lane q 0))))))) 2#32
            (Scalar.select (Ideal.cmp .oeq (max (k0_pay6 b (ix2 r (lane q 0))) (k0_pay7 b (ix2 r (lane q 0))))
              (max (k0_pay4 b (ix2 r (lane q 0))) (max (max (k0_pay6 b (ix2 r (lane q 0))) (k0_pay7 b (ix2 r (lane q 0))))
                (max (k0_pay8 b (ix2 r (lane q 0))) (k0_pay9 b (ix2 r (lane q 0))))))) 1#32 0#32))
          (k0_pay3 y (ix2 r (lane q 0))))
        (Ideal.ofBits .f32 0x3FC00000#32) (Ideal.ofBits .f32 0x3F800000#32)
      * ((k0_pay10 b (ix2 r (lane q 0)) + k0_pay11 b (ix2 r (lane q 0)))
        - Scalar.select (IntOp.cmpi .eq (k0_pay1 y (ix2 r (lane q 0))) 4#32) (k0_pay9 b (ix2 r (lane q 0)))
          (Scalar.select (IntOp.cmpi .eq (k0_pay1 y (ix2 r (lane q 0))) 3#32) (k0_pay8 b (ix2 r (lane q 0)))
            (Scalar.select (IntOp.cmpi .eq (k0_pay1 y (ix2 r (lane q 0))) 2#32) (k0_pay7 b (ix2 r (lane q 0)))
              (Scalar.select (IntOp.cmpi .eq (k0_pay1 y (ix2 r (lane q 0))) 1#32) (k0_pay6 b (ix2 r (lane q 0)))
                (k0_pay4 b (ix2 r (lane q 0))))))))
    (Ideal.ofBits .f32 0x00000000#32) = _
  rw [mask_apply, if_pos (by show (5 * q.val + 0) % 5 = 0; omega), select_one, h1, h3, h4, h6, h7, h8, h9, h10, hM]
  rw [show Scalar.select _ ((u 4 : ℝ) : EReal) _ = U k from pick_eq k U, ofBits_three_halves, ofBits_one]
  simp only [← EReal.coe_strictMono.monotone.map_max]
  rw [select_ne, predGrp_select u, ← EReal.coe_add, log_shift]
  show _ * (((lse u : ℝ) : EReal) - ((u k : ℝ) : EReal)) = _
  rw [← EReal.coe_sub]
  unfold term wt
  rw [EReal.coe_mul]
  congr 1
  split <;> rfl

end Cert.Proof.Lane

end
-- ==== Proof.Point.lean ====
/-
  One grid point's part of the result: on the lane that starts sample `q` of each row, the weighted cross entropies of
  that sample in the four prediction sets, summed over the point's 256 rows; on the other lanes zero.
-/
module

public import proofs.«01_k».proof.Proof.Lane
public import Idealize.ShloMosaic.Lib.Claim

@[expose] public section

noncomputable section

namespace Cert.Proof.Point

open Cert.KernelIdeal Cert.KernelIdeal.Gen Cert.Proof.Body Cert.Proof.Spec Cert.Proof.Lane
open Idealize.ShloMosaic Idealize.ShloMosaic.TcCoe Idealize.ShloMosaic.ValueIdx Idealize.SL.Sem

/-! ## The step, lane by lane -/

/-- After a step a lane holds what it held plus the sum of the contributions down the lane. -/
theorem step_apply (x : Vec Ideal S4x256x640 .f32) (y : Vec Ideal S256x640 .i32) (acc : Vec Ideal S1x1x640 .f32) (l : Fin 640) :
    step x y acc (ix3 (0 : Fin 1) (0 : Fin 1) l)
      = acc (ix3 (0 : Fin 1) (0 : Fin 1) l) + ∑ r : Fin 256, contribs x y (ix2 r l) := by
  have h1 : ∀ v : FVec Ideal S1x640 .f32, shapeCast S1x1x640 v shapeCasts_S1x640_S1x1x640 (ix3 (0 : Fin 1) (0 : Fin 1) l)
      = v (ix2 (0 : Fin 1) l) := fun v => shapeCast_apply v _ _ _ (by
    rw [Shape.rowMajor_val_two, Shape.rowMajor_val_three]; show 0 * 640 + l.val = (0 * 1 + 0) * 640 + l.val; omega)
  have h2 : shapeCast S1x640 acc shapeCasts_S1x1x640_S1x640 (ix2 (0 : Fin 1) l) = acc (ix3 (0 : Fin 1) (0 : Fin 1) l) :=
    shapeCast_apply acc _ _ _ (by
      rw [Shape.rowMajor_val_two, Shape.rowMajor_val_three]; show (0 * 1 + 0) * 640 + l.val = 0 * 640 + l.val; omega)
  have h3 : ∀ v : FVec Ideal S640 .f32, shapeCast S1x640 v shapeCasts_S640_S1x640 (ix2 (0 : Fin 1) l) = v (ix1 l) :=
    fun v => shapeCast_apply v _ _ _ (by
      rw [Shape.rowMajor_val_two, Shape.rowMajor_val_one]; show l.val = 0 * 640 + l.val; omega)
  unfold step
  rw [h1, addf_apply, h2, h3]
  refine congrArg (acc (ix3 (0 : Fin 1) (0 : Fin 1) l) + ·) ?_
  refine (Ideal.multiReduction_add_single (contribs x y) 0x00000000#32 reduces_S256x640_S640 (.inl rfl) rfl (ix1 l)).trans ?_
  exact Finset.sum_congr rfl fun k _ => congrArg (contribs x y) (eq_ix2 _)

/-- A prediction set of a block, read at a row and a lane. -/
theorem head_apply (x : Vec Ideal S4x256x640 .f32) (t : ℕ) (ht : t < 4)
    (h : ∀ a, (![t, 0, 0] : Fin 3 → ℕ) a + S1x256x640.size a ≤ S4x256x640.size a) (i : S1x256x640.Idx) :
    head x t h i = x (ix3 (⟨t, ht⟩ : Fin 4) (i 1) (i 2)) := by
  unfold head
  have hi : (i 0).val < 1 := (i 0).isLt
  rw [View.ld_unit]
  refine extractStridedSlice_apply _ _ _ _ _ fun a => ?_
  match a with
  | ⟨0, _⟩ => show t = t + (i 0).val; omega
  | ⟨1, _⟩ => show (i 1).val = 0 + (i 1).val; omega
  | ⟨2, _⟩ => show (i 2).val = 0 + (i 2).val; omega

/-- The four contributions off the lanes that start a sample. -/
theorem contribs_off (x : Vec Ideal S4x256x640 .f32) (y : Vec Ideal S256x640 .i32) (r : Fin 256) (q : Fin 128) (c : Fin 5)
    (hc : c ≠ 0) : contribs x y (ix2 r (lane q c)) = 0 := by
  unfold contribs
  rw [addf_apply, addf_apply, addf_apply, contrib_off _ _ r q c hc, contrib_off _ _ r q c hc, contrib_off _ _ r q c hc,
    contrib_off _ _ r q c hc]
  simp

/-- The four contributions on the lane that starts sample `q`. -/
theorem contribs_base (x : Vec Ideal S4x256x640 .f32) (y : Vec Ideal S256x640 .i32) (hx : ∀ i, ∃ z : ℝ, x i = (z : EReal))
    (r : Fin 256) (q : Fin 128) (u : Fin 4 → Fin 5 → ℝ) (k : Fin 5)
    (hu : ∀ t c, x (ix3 t r (lane q c)) = ((u t c : ℝ) : EReal)) (hy : y (ix2 r (lane q 0)) = BitVec.ofNat 32 k.val) :
    contribs x y (ix2 r (lane q 0)) = ((∑ t, term (u t) k : ℝ) : EReal) := by
  have h : ∀ (t : ℕ) (ht : t < 4) (hh : ∀ a, (![t, 0, 0] : Fin 3 → ℕ) a + S1x256x640.size a ≤ S4x256x640.size a),
      contrib y (head x t hh) (ix2 r (lane q 0)) = ((term (u ⟨t, ht⟩) k : ℝ) : EReal) := fun t ht hh =>
    contrib_base y (head x t hh) (fun i => ⟨_, (head_apply x t ht hh i).trans (hx _).choose_spec⟩) r q (u ⟨t, ht⟩) k
      (fun c => (head_apply x t ht hh _).trans (hu ⟨t, ht⟩ c)) hy
  unfold contribs
  rw [addf_apply, addf_apply, addf_apply, h 0 (by decide), h 1 (by decide), h 2 (by decide), h 3 (by decide),
    ← EReal.coe_add, ← EReal.coe_add, ← EReal.coe_add, Fin.sum_univ_four]
  rfl

/-! ## The blocks the point reads -/

/-- Sample `q` of row `r` of the block at point `n`. -/
def smp (n : Fin 32) (r : Fin 256) (q : Fin 128) : Fin 1048576 := ⟨128 * (256 * n.val + r.val) + q.val, by omega⟩

variable (m : (ℓ : Loc nD τ sig) → Buf (Elt Ideal) ℓ)

/-- The score array the region reads is the first argument, reshaped. -/
theorem V_scores (c : Dev nD) : (V m c main_v0 : FVec Ideal S4x8192x640 .f32)
    = shapeCast S4x8192x640 (m ((c.tc : Thread nD τ).loc main_arg0)) shapeCasts_S4x1048576x5_S4x8192x640 := by
  unfold V V0
  simp only [List.flatten_cons, List.flatten_nil, List.append_nil]
  after_results
  rfl

/-- The label array is the second argument, each label repeated five times, reshaped. -/
theorem V_labels (c : Dev nD) : (V m c main_v3 : IVec S8192x640 32)
    = shapeCast S8192x640 (shapeCast S5242880
        (broadcastInDim S1048576x5 ![0] bcast_S1048576_S1048576x5_0 (m ((c.tc : Thread nD τ).loc main_arg1)))
        shapeCasts_S1048576x5_S5242880) shapeCasts_S5242880_S8192x640 := by
  unfold V V0
  simp only [List.flatten_cons, List.flatten_nil, List.append_nil]
  after_results
  rfl

theorem index0 : ∀ t : Fin cfg0.N, win0_0.index t 0 = 0 ∧ win0_0.index t 1 = t.val ∧ win0_0.index t 2 = 0 := by decide +kernel
theorem index1 : ∀ t : Fin cfg0.N, win0_1.index t 0 = t.val ∧ win0_1.index t 1 = 0 := by decide +kernel
theorem index2 : ∀ t : Fin cfg0.N, win0_2.index t 0 = t.val / 4 ∧ win0_2.index t 1 = 0 ∧ win0_2.index t 2 = 0 := by
  decide +kernel

/-- A point's score block, read at a class of a sample. -/
theorem scores_apply (c : Dev nD) (n : Fin 32) (hn : n.val < cfg0.N) (t : Fin 4) (r : Fin 256) (q : Fin 128) (k : Fin 5) :
    (iblk m c 0 ⟨n.val, hn⟩ : Vec Ideal S4x256x640 .f32) (ix3 t r (lane q k))
      = m ((c.tc : Thread nD τ).loc main_arg0) (ix3 t (smp n r q) k) := by
  have hi := index0 ⟨n.val, hn⟩
  have hg : 256 * n.val + r.val < 8192 := by omega
  refine Eq.trans (b := (V m c main_v0 : FVec Ideal S4x8192x640 .f32) (ix3 t (⟨256 * n.val + r.val, hg⟩ : Fin 8192) (lane q k))) ?_ ?_
  · unfold iblk
    rw [View.read_apply]
    show V m c main_v0 _ = _
    congr 1
    funext a
    apply Fin.ext
    match a with
    | ⟨0, _⟩ => show win0_0.index ⟨n.val, hn⟩ 0 * 4 + 1 * t.val = t.val; rw [hi.1]; omega
    | ⟨1, _⟩ => show win0_0.index ⟨n.val, hn⟩ 1 * 256 + 1 * r.val = 256 * n.val + r.val; rw [hi.2.1]; dsimp only; omega
    | ⟨2, _⟩ => show win0_0.index ⟨n.val, hn⟩ 2 * 640 + 1 * (5 * q.val + k.val) = 5 * q.val + k.val; rw [hi.2.2]; omega
  · rw [V_scores]
    refine shapeCast_apply _ _ _ _ ?_
    show (S4x1048576x5.rowMajor (ix3 t (smp n r q) k)).val = _
    rw [Shape.rowMajor_val_three, Shape.rowMajor_val_three]
    show (t.val * 1048576 + (128 * (256 * n.val + r.val) + q.val)) * 5 + k.val
      = (t.val * 8192 + (256 * n.val + r.val)) * 640 + (5 * q.val + k.val)
    omega

/-- A point's label block, read at a class of a sample. -/
theorem labels_apply (c : Dev nD) (n : Fin 32) (hn : n.val < cfg0.N) (r : Fin 256) (q : Fin 128) (k : Fin 5) :
    (iblk m c 1 ⟨n.val, hn⟩ : Vec Ideal S256x640 .i32) (ix2 r (lane q k))
      = m ((c.tc : Thread nD τ).loc main_arg1) (ix1 (smp n r q)) := by
  have hi := index1 ⟨n.val, hn⟩
  have hg : 256 * n.val + r.val < 8192 := by omega
  refine Eq.trans (b := (V m c main_v3 : IVec S8192x640 32) (ix2 (⟨256 * n.val + r.val, hg⟩ : Fin 8192) (lane q k))) ?_ ?_
  · unfold iblk
    rw [View.read_apply]
    show V m c main_v3 _ = _
    congr 1
    funext a
    apply Fin.ext
    match a with
    | ⟨0, _⟩ => show win0_1.index ⟨n.val, hn⟩ 0 * 256 + 1 * r.val = 256 * n.val + r.val; rw [hi.1]; dsimp only; omega
    | ⟨1, _⟩ => show win0_1.index ⟨n.val, hn⟩ 1 * 640 + 1 * (5 * q.val + k.val) = 5 * q.val + k.val; rw [hi.2]; omega
  · have hf : 640 * (256 * n.val + r.val) + (5 * q.val + k.val) < 5242880 := by omega
    rw [V_labels]
    refine (shapeCast_apply _ _ _ (ix1 (⟨640 * (256 * n.val + r.val) + (5 * q.val + k.val), hf⟩ : Fin 5242880)) ?_).trans ?_
    · rw [Shape.rowMajor_val_one, Shape.rowMajor_val_two]
      show 640 * (256 * n.val + r.val) + (5 * q.val + k.val) = (256 * n.val + r.val) * 640 + (5 * q.val + k.val)
      omega
    refine (shapeCast_apply _ _ _ (ix2 (smp n r q) k) ?_).trans ?_
    · rw [Shape.rowMajor_val_one, Shape.rowMajor_val_two]
      show (128 * (256 * n.val + r.val) + q.val) * 5 + k.val = 640 * (256 * n.val + r.val) + (5 * q.val + k.val)
      omega
    refine broadcastInDim_apply _ _ _ _ _ fun a => ?_
    match a with
    | ⟨0, _⟩ => rfl

/-! ## The point's part -/

/-- What a grid point adds to a lane. -/
def part (X : Fin 4 → Fin 1048576 → Fin 5 → ℝ) (Y : Fin 1048576 → Fin 5) (n : Fin 32) (q : Fin 128) (k : Fin 5) : ℝ :=
  if k = 0 then ∑ r, ∑ t, term (X t (smp n r q)) (Y (smp n r q)) else 0

/-- A step at point `n` adds that point's part. -/
theorem step_part (c : Dev nD) (X : Fin 4 → Fin 1048576 → Fin 5 → ℝ) (Y : Fin 1048576 → Fin 5)
    (hX : ∀ t b k, m ((c.tc : Thread nD τ).loc main_arg0) (ix3 t b k) = ((X t b k : ℝ) : EReal))
    (hY : ∀ b, m ((c.tc : Thread nD τ).loc main_arg1) (ix1 b) = BitVec.ofNat 32 (Y b).val)
    (n : Fin 32) (hn : n.val < cfg0.N) (acc : Vec Ideal S1x1x640 .f32) (q : Fin 128) (k : Fin 5) :
    step (iblk m c 0 ⟨n.val, hn⟩) (iblk m c 1 ⟨n.val, hn⟩) acc (ix3 (0 : Fin 1) (0 : Fin 1) (lane q k))
      = acc (ix3 (0 : Fin 1) (0 : Fin 1) (lane q k)) + ((part X Y n q k : ℝ) : EReal) := by
  rw [step_apply]
  refine congrArg (acc (ix3 (0 : Fin 1) (0 : Fin 1) (lane q k)) + ·) ?_
  unfold part
  by_cases hk : k = 0
  · subst hk
    rw [if_pos rfl, ← sum_coe]
    refine Finset.sum_congr rfl fun r _ => ?_
    refine contribs_base _ _ (fun i => ?_) r q (fun t => X t (smp n r q)) (Y (smp n r q))
      (fun t k => (scores_apply m c n hn t r q k).trans (hX _ _ _)) ((labels_apply m c n hn r q 0).trans (hY _))
    have hl : i = ix3 (i 0) (i 1) (lane ⟨(i 2).val / 5, by have : (i 2).val < 640 := (i 2).isLt; omega⟩
        ⟨(i 2).val % 5, Nat.mod_lt _ (by decide)⟩) := by
      refine (eq_ix3 i).trans (congrArg (ix3 (i 0) (i 1)) (Fin.ext ?_))
      show (i 2).val = 5 * ((i 2).val / 5) + (i 2).val % 5
      omega
    rw [hl]
    exact ⟨_, (scores_apply m c n hn _ _ _ _).trans (hX _ _ _)⟩
  · rw [if_neg hk]
    exact Finset.sum_eq_zero fun r _ => contribs_off _ _ r q k hk

end Cert.Proof.Point

end
-- ==== Proof.Fold.lean ====
/-
  The kernel's result. Each output row gathers the parts of its four grid points; the lines after the region add all the
  lanes of all the rows and divide by the number of samples, which gives the number `Spec.result`.
-/
module

public import proofs.«01_k».proof.Proof.Point

@[expose] public section

noncomputable section

namespace Cert.Proof.Fold

open Cert.KernelIdeal Cert.KernelIdeal.Gen Cert.Proof.Body Cert.Proof.Spec Cert.Proof.Lane Cert.Proof.Point
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A row's four points -/

/-- The grid point of row `p`, step `s`. -/
def pt (p : Fin 8) (s : Fin 4) : Fin 32 := ⟨4 * p.val + s.val, by omega⟩

theorem pt_lt (p : Fin 8) (s : Fin 4) : (pt p s).val < cfg0.N := by
  rw [show cfg0.N = 32 from N_0]; exact (pt p s).isLt

variable (c : Dev nD) (X : Fin 4 → Fin 1048576 → Fin 5 → ℝ) (Y : Fin 1048576 → Fin 5)
  (hX : ∀ t b k, m ((c.tc : Thread nD τ).loc main_arg0) (ix3 t b k) = ((X t b k : ℝ) : EReal))
  (hY : ∀ b, m ((c.tc : Thread nD τ).loc main_arg1) (ix1 b) = BitVec.ofNat 32 (Y b).val)

include hX hY in
/-- The first of the four leaves its part. -/
theorem first (n : Fin 32) (hn : n.val < cfg0.N) (h : n.val % 4 = 0) (q : Fin 128) (k : Fin 5) :
    outsAt0 m c n.val hn (ix3 (0 : Fin 1) (0 : Fin 1) (lane q k)) = ((part X Y n q k : ℝ) : EReal) := by
  rw [outsAt0_A m c ⟨n.val, hn⟩ h, out_A, step_part m c X Y hX hY n hn]
  show Ideal.ofBits .f32 0x00000000#32 + _ = _
  rw [Ideal.ofBits_zero_f32, zero_add]

include hX hY in
/-- Each later one adds its part. -/
theorem later (n : Fin 32) (hn : n.val < cfg0.N) (h : ¬n.val % 4 = 0) (q : Fin 128) (k : Fin 5) (z : ℝ)
    (hz : outsAt0 m c (n.val - 1) (Nat.lt_of_le_of_lt (Nat.sub_le _ _) hn) (ix3 (0 : Fin 1) (0 : Fin 1) (lane q k)) = (z : EReal)) :
    outsAt0 m c n.val hn (ix3 (0 : Fin 1) (0 : Fin 1) (lane q k)) = ((z + part X Y n q k : ℝ) : EReal) := by
  rw [outsAt0_B m c ⟨n.val, hn⟩ h, out_B, step_part m c X Y hX hY n hn, hz, EReal.coe_add]

include hX hY in
/-- So after the fourth the row holds the four parts. -/
theorem last (p : Fin 8) (q : Fin 128) (k : Fin 5) :
    outsAt0 m c (pt p 3).val (pt_lt p 3) (ix3 (0 : Fin 1) (0 : Fin 1) (lane q k))
      = ((∑ s, part X Y (pt p s) q k : ℝ) : EReal) := by
  have e0 := first m c X Y hX hY (pt p 0) (pt_lt p 0) (by show (4 * p.val + 0) % 4 = 0; omega) q k
  have e1 := later m c X Y hX hY (pt p 1) (pt_lt p 1) (by show ¬(4 * p.val + 1) % 4 = 0; omega) q k _ e0
  have e2 := later m c X Y hX hY (pt p 2) (pt_lt p 2) (by show ¬(4 * p.val + 2) % 4 = 0; omega) q k _ e1
  have e3 := later m c X Y hX hY (pt p 3) (pt_lt p 3) (by show ¬(4 * p.val + 3) % 4 = 0; omega) q k _ e2
  rw [e3, Fin.sum_univ_four]

/-! ## The array of row sums -/

/-- Row `p`'s point index, off an index of the array. -/
theorem row_lt (j : S8x1x640.Idx) : 4 * (j 0).val + 3 < cfg0.N := by
  have : (j 0).val < 8 := (j 0).isLt
  rw [show cfg0.N = 32 from N_0]; omega

/-- The array of row sums: row `p` is what the buffer holds after the row's fourth point. -/
def rows : Buf (Elt Ideal) ((c.tc : Thread nD τ).loc main_v4) := fun j : S8x1x640.Idx =>
  outsAt0 m c (4 * (j 0).val + 3) (row_lt j) (ix3 (0 : Fin 1) (0 : Fin 1) (j 2))

/-- What the buffer holds does not depend on how the point is written. -/
theorem outsAt_congr (n n' : ℕ) (h : n < cfg0.N) (h' : n' < cfg0.N) (e : n = n') : outsAt0 m c n h = outsAt0 m c n' h' := by
  subst e; rfl

/-- Each row's write-back, after its fourth point, writes that row. -/
theorem flushed_eq (t : Fin cfg0.N) (hf : (cfg0.win 2).flush t = true) :
    (dats m 0 c).flushed 2 t = ((cfg0.win 2).blk t).view.read (Elt Ideal) (rows m c) := by
  have h3 : t.val % 4 = 3 := (flush0_2 t).mp hf
  have hi := index2 t
  show (cfg0.win 2).cut (grid0.coords t) ((dats m 0 c).after 2 t) = _
  rw [after0_2]
  funext j
  rw [View.read_apply]
  have hj0 : (j 0).val < 1 := (j 0).isLt
  have hj1 : (j 1).val < 1 := (j 1).isLt
  show outsAt0 m c t.val t.isLt j = rows m c _
  unfold rows
  have ht : t.val = 4 * (win0_2.index t 0 * 1 + 1 * (j 0).val) + 3 := by rw [hi.1]; omega
  refine (congrFun (outsAt_congr m c _ _ t.isLt (by rw [← ht]; exact t.isLt) ht) j).trans (congrArg _ ?_)
  funext a
  apply Fin.ext
  match a with
  | ⟨0, _⟩ => show (j 0).val = 0; omega
  | ⟨1, _⟩ => show (j 1).val = 0; omega
  | ⟨2, _⟩ => show (j 2).val = win0_2.index t 2 * 640 + 1 * (j 2).val; rw [hi.2.2]; omega

/-- So the region leaves the row sums. -/
theorem final_rows : (dats m 0 c).arrAt 2 cfg0.N = rows m c :=
  (dats m 0 c).arrAt_eq_of_cover 2 (rows m c) (flushed_eq m c) fun (i : S8x1x640.Idx) => by
    have h0 : (i 0 : ℕ) < 8 := (i 0).isLt
    have h1 : (i 1 : ℕ) < 1 := (i 1).isLt
    have h2 : (i 2 : ℕ) < 640 := (i 2).isLt
    have hi := index2 ⟨_, row_lt i⟩
    refine ⟨⟨_, row_lt i⟩, (flush0_2 _).mpr (by dsimp only; omega), ?_⟩
    show i ∈ ((View.whole main_v4).slice (win0_2.rect ⟨_, row_lt i⟩)).set
    rw [View.set_slice_whole, Rect.mem_set_unit]
    intro a
    match a with
    | ⟨0, _⟩ =>
      show win0_2.index ⟨_, row_lt i⟩ 0 * 1 ≤ (i 0 : ℕ) ∧ (i 0 : ℕ) < win0_2.index ⟨_, row_lt i⟩ 0 * 1 + 1
      rw [hi.1]; dsimp only; omega
    | ⟨1, _⟩ =>
      show win0_2.index ⟨_, row_lt i⟩ 1 * 1 ≤ (i 1 : ℕ) ∧ (i 1 : ℕ) < win0_2.index ⟨_, row_lt i⟩ 1 * 1 + 1
      rw [hi.2.1]; omega
    | ⟨2, _⟩ =>
      show win0_2.index ⟨_, row_lt i⟩ 2 * 640 ≤ (i 2 : ℕ) ∧ (i 2 : ℕ) < win0_2.index ⟨_, row_lt i⟩ 2 * 640 + 640
      rw [hi.2.2]; omega

/-! ## The lines after the region -/

/-- The result off the array of row sums. -/
def tail (a : FVec Ideal S8x1x640 .f32) : FVec Ideal S1 .f32 :=
  shapeCast S1 (Host.divf (Host.reduceAdd a (constant S_ .f32 0x00000000#32) reducesTo_S8x1x640_S_d0_1_2 h_S_)
    (constant S_ .f32 0x49800000#32)) shapeCasts_S_S1

/-- The lines after the region, at the result buffer. -/
theorem tail_eq : (Pipeline.afterTail₀ cfgs (dats m) 0 (V0 m) [hostOps1] c main_v7 : FVec Ideal S1 .f32) = tail (rows m c) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v4)
    = rows m c from (Pipeline.withArrays_arr (cfgs 0).spec (by decide) c (V0 m c)
      (fun w => (dats m 0 c).arrAt w (cfgs 0).N) 2).trans (final_rows m c)]
  rfl

/-! ## Its value -/

/-- A sum over a range cut into `A` runs of `B`. -/
theorem sum_split {N : ℕ} (A B : ℕ) (hN : N = A * B) (f : Fin N → ℝ) :
    ∑ b, f b = ∑ a : Fin A, ∑ r : Fin B, f ⟨B * a.val + r.val, by
      have := a.isLt; have := r.isLt
      calc B * a.val + r.val < B * a.val + B := by omega
        _ = B * (a.val + 1) := by ring
        _ ≤ B * A := Nat.mul_le_mul_left _ (by omega)
        _ = N := by rw [hN, Nat.mul_comm]⟩ := by
  subst hN
  rw [← Equiv.sum_comp finProdFinEquiv f, Fintype.sum_prod_type]
  exact Finset.sum_congr rfl fun a _ => Finset.sum_congr rfl fun r _ => congrArg f (Fin.ext (by
    show r.val + B * a.val = B * a.val + r.val; omega))

/-- The samples, by row, step, row of the block and position in it. -/
theorem sum_samples (f : Fin 1048576 → ℝ) : ∑ b, f b = ∑ p, ∑ s, ∑ r, ∑ q, f (smp (pt p s) r q) := by
  rw [sum_split (N := 1048576) 8192 128 (by norm_num) f]
  rw [sum_split (N := 8192) 32 256 (by norm_num)]
  rw [sum_split (N := 32) 8 4 (by norm_num)]
  exact Finset.sum_congr rfl fun p _ => Finset.sum_congr rfl fun s _ => Finset.sum_congr rfl fun r _ =>
    Finset.sum_congr rfl fun q _ => congrArg f (Fin.ext rfl)

/-- All the parts together are all the samples. -/
theorem sum_parts : ∑ p, ∑ q, ∑ k, ∑ s, part X Y (pt p s) q k = ∑ b, ∑ t, term (X t b) (Y b) := by
  rw [sum_samples]
  refine Finset.sum_congr rfl fun p _ => ?_
  have hk : ∀ q, ∑ k, ∑ s, part X Y (pt p s) q k = ∑ s, ∑ r, ∑ t, term (X t (smp (pt p s) r q)) (Y (smp (pt p s) r q)) := fun q => by
    rw [Fin.sum_univ_five]
    simp [part]
  rw [Finset.sum_congr rfl fun q _ => hk q, Finset.sum_comm]
  exact Finset.sum_congr rfl fun s _ => Finset.sum_comm

/-- The array's indices are its rows and lanes. -/
def rowLane : Fin 8 × Fin 640 ≃ S8x1x640.Idx where
  toFun p := ix3 p.1 (0 : Fin 1) p.2
  invFun i := (i 0, i 2)
  left_inv _ := rfl
  right_inv i := by
    have h1 : (i 1).val < 1 := (i 1).isLt
    funext a
    apply Fin.ext
    match a with
    | ⟨0, _⟩ => rfl
    | ⟨1, _⟩ => show 0 = (i 1).val; omega
    | ⟨2, _⟩ => rfl

/-- A lane is a sample and a class. -/
def laneEquiv : Fin 128 × Fin 5 ≃ Fin 640 where
  toFun p := lane p.1 p.2
  invFun l := (⟨l.val / 5, by omega⟩, ⟨l.val % 5, Nat.mod_lt _ (by decide)⟩)
  left_inv p := by
    obtain ⟨q, k⟩ := p
    refine Prod.ext (Fin.ext ?_) (Fin.ext ?_)
    · show (5 * q.val + k.val) / 5 = q.val; omega
    · show (5 * q.val + k.val) % 5 = k.val; omega
  right_inv l := Fin.ext (by show 5 * (l.val / 5) + l.val % 5 = l.val; omega)

/-- The array as a function into the extended reals. -/
def rowsFn : S8x1x640.Idx → EReal := fun j =>
  outsAt0 m c (4 * (j 0).val + 3) (row_lt j) (ix3 (0 : Fin 1) (0 : Fin 1) (j 2))

include hX hY in
/-- All its entries together. -/
theorem sum_rows : ∑ j, rowsFn m c j = ((∑ b, ∑ t, term (X t b) (Y b) : ℝ) : EReal) := by
  rw [← sum_parts X Y, ← Equiv.sum_comp rowLane, Fintype.sum_prod_type, ← sum_coe]
  refine Finset.sum_congr rfl fun p _ => ?_
  rw [← Equiv.sum_comp laneEquiv, Fintype.sum_prod_type, ← sum_coe]
  refine Finset.sum_congr rfl fun q _ => ?_
  rw [← sum_coe]
  exact Finset.sum_congr rfl fun k _ => last m c X Y hX hY p q k

include hX hY in
/-- The kernel's result is the number. -/
theorem value : tail (rows m c) = fun _ => ((result X Y : ℝ) : EReal) := by
  funext i
  unfold tail
  rw [shapeCast_apply _ shapeCasts_S_S1 i ix0 (by
    have h1 := (S_.rowMajor ix0).isLt
    have h2 := (S1.rowMajor i).isLt
    have e1 : S_.numel = 1 := by decide
    have e2 : S1.numel = 1 := by decide
    omega)]
  show Ideal.div (Ideal.hostReduceAdd reducesTo_S8x1x640_S_d0_1_2 (rowsFn m c) (Ideal.ofBits .f32 0x00000000#32) ix0)
    (Ideal.ofBits .f32 0x49800000#32) = _
  rw [Ideal.hostReduceAdd_total _ (fun b => b.elim0), sum_rows m c X Y hX hY, Ideal.ofBits_zero_f32, zero_add, ofBits_batch,
    Ideal.div_coe (by norm_num), ← EReal.coe_mul]
  unfold result
  congr 1
  ring

include hX hY in
/-- The result buffer after the run, off the run's final state. -/
theorem result_eq :
    (Pipeline.afterTail₀ cfgs (dats m) 0 (V0 m) [hostOps1] c main_v7 : FVec Ideal S1 .f32) = fun _ => ((result X Y : ℝ) : EReal) :=
  (tail_eq m c).trans (value m c X Y hX hY)

/-- Every execution of the program ends with the result buffer as the lines after the region leave it, and the
    arguments unchanged. -/
theorem run : θ_run defs (onTc (τ := τ) (main (F := Ideal))) ⟨m, fun _ => 0, ρ⟩ fun r => ∀ c : Dev nD,
    r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.Fold

end
-- ==== Proof.RefRun.lean ====
/-
  The run of the reference program (`Cert.ReferenceIdeal`): a straight line of eighty-four host operations over
  the two arguments, the three called functions' operations in their places. Every execution of it terminates
  with each buffer at the operations' results folded over the launch contents; the result buffer then holds
  `Ref.out` of the two arguments, a composition of a few named functions, and the arguments are unchanged.
-/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The reference as functions of its arguments -/

/-- The scores less their maximum over the five classes. -/
def shifted (x : FVec F S4x1048576x5 .f32) : FVec F S4x1048576x5 .f32 :=
  subf x (broadcastInDim S4x1048576x5 ![0, 1, 2] bcast_S4x1048576x1_S4x1048576x5_0_1_2
    (broadcastInDim S4x1048576x1 ![0, 1] bcast_S4x1048576_S4x1048576x1_0_1
      (maximumf (broadcastInDim S4x1048576 ![] bcast_S_S4x1048576 (constant S_ .f32 0xFF800000#32))
        (Host.reduce FloatOps.maximumf x (constant S_ .f32 0xFF800000#32) reducesTo_S4x1048576x5_S4x1048576_d2 h_S_))))

/-- The logarithm of the softmax: the shifted scores less the logarithm of the sum of their exponentials. -/
def logp (x : FVec F S4x1048576x5 .f32) : FVec F S4x1048576x5 .f32 :=
  subf (shifted x) (broadcastInDim S4x1048576x5 ![0, 1, 2] bcast_S4x1048576x1_S4x1048576x5_0_1_2
    (Host.log (broadcastInDim S4x1048576x1 ![0, 1] bcast_S4x1048576_S4x1048576x1_0_1
      (Host.reduceAdd (Host.exp (shifted x)) (constant S_ .f32 0x00000000#32) reducesTo_S4x1048576x5_S4x1048576_d2 h_S_))))

/-- The labels, one copy per prediction set. -/
def labels (y : IVec S1048576 32) : IVec S4x1048576x1 32 :=
  broadcastInDim S4x1048576x1 ![0, 1, 2] bcast_S1x1048576x1_S4x1048576x1_0_1_2
    (broadcastInDim S1x1048576x1 ![1] bcast_S1048576_S1x1048576x1_1 y)

/-- The labels as class indices: a negative one counts from the end. -/
def classIdx (y : IVec S1048576 32) : IVec S4x1048576x1x1 32 :=
  shapeCast S4x1048576x1x1
    (select (cmpi .slt (labels y) (broadcastInDim S4x1048576x1 ![] bcast_S_S4x1048576x1 (constantI S_ 32 0#32)))
      (addi (labels y) (broadcastInDim S4x1048576x1 ![] bcast_S_S4x1048576x1 (constantI S_ 32 5#32))) (labels y))
    shapeCasts_S4x1048576x1_S4x1048576x1x1

/-- Whether the class index lies in 0 .. 4. -/
def inRange (y : IVec S1048576 32) : IVec S4x1048576x1 1 :=
  Host.reduce IntOp.andi
    (andi (cmpi .sge (classIdx y) (broadcastInDim S4x1048576x1x1 ![] bcast_S_S4x1048576x1x1 (constantI S_ 32 0#32)))
      (cmpi .sle (classIdx y) (broadcastInDim S4x1048576x1x1 ![0, 1, 2, 3] bcast_S1x1x1x1_S4x1048576x1x1_0_1_2_3
        (broadcastInDim S1x1x1x1 ![3] bcast_S1_S1x1x1x1_3 (constantI S1 32 4#32)))))
    (constantI S_ 1 1#1) reducesTo_S4x1048576x1x1_S4x1048576x1_d3 h_S_

/-- The logarithm of the softmax at the label. -/
def picked (x : FVec F S4x1048576x5 .f32) (y : IVec S1048576 32) : FVec F S4x1048576x1 .f32 :=
  select (inRange y)
    (Host.gather gather_S4x1048576x5_S4x1048576x1x1_S4x1048576x1_n_2_01_01_2_3_111 (logp x) (classIdx y))
    (broadcastInDim S4x1048576x1 ![] bcast_S_S4x1048576x1 (constant S_ .f32 0x7FC00000#32))

/-- The first class at which the score is largest. -/
def pred (x : FVec F S4x1048576x5 .f32) : IVec S4x1048576 32 :=
  fun j => (Host.argReduce reducer_argmax_f32_i32 x (iotaInDim S4x1048576x5 32 2) (constant S_ .f32 0xFF800000#32)
    (constantI S_ 32 0#32) reducesTo_S4x1048576x5_S4x1048576_d2 h_S_ j).2

/-- The table of groups, one entry per class. -/
def table : IVec S5 32 := fun i => lit0 (S5.rowMajor i)

/-- The group of the label. -/
def labelGroup (y : IVec S1048576 32) : IVec S1048576 32 :=
  Host.gather gather_S5_S1048576x1_S1048576_n_0_n_n_0_1_1 table
    (broadcastInDim S1048576x1 ![0] bcast_S1048576_S1048576x1_0
      (select (cmpi .slt y (broadcastInDim S1048576 ![] bcast_S_S1048576 (constantI S_ 32 0#32)))
        (addi y (broadcastInDim S1048576 ![] bcast_S_S1048576 (constantI S_ 32 5#32))) y))

/-- The group of the predicted class. -/
def predGroup (x : FVec F S4x1048576x5 .f32) : IVec S4x1048576 32 :=
  Host.gather gather_S5_S4x1048576x1_S4x1048576_n_0_n_n_0_2_1 table
    (broadcastInDim S4x1048576x1 ![0, 1] bcast_S4x1048576_S4x1048576x1_0_1
      (select (cmpi .slt (pred x) (broadcastInDim S4x1048576 ![] bcast_S_S4x1048576 (constantI S_ 32 0#32)))
        (addi (pred x) (broadcastInDim S4x1048576 ![] bcast_S_S4x1048576 (constantI S_ 32 5#32))) (pred x)))

/-- One, and a half more where the two groups differ. -/
def weight (x : FVec F S4x1048576x5 .f32) (y : IVec S1048576 32) : FVec F S4x1048576 .f32 :=
  addf (broadcastInDim S4x1048576 ![] bcast_S_S4x1048576 (constant S_ .f32 0x3F800000#32))
    (mulf (broadcastInDim S4x1048576 ![] bcast_S_S4x1048576 (constant S_ .f32 0x3F000000#32))
      (uitofp .f32 (cmpi .ne
        (broadcastInDim S4x1048576 ![0, 1] bcast_S1x1048576_S4x1048576_0_1
          (broadcastInDim S1x1048576 ![1] bcast_S1048576_S1x1048576_1 (labelGroup y)))
        (predGroup x))))

/-- The weighted cross entropy of each sample in each prediction set. -/
def weighted (x : FVec F S4x1048576x5 .f32) (y : IVec S1048576 32) : FVec F S4x1048576 .f32 :=
  mulf (Host.negf (shapeCast S4x1048576 (picked x y) shapeCasts_S4x1048576x1_S4x1048576)) (weight x y)

/-- The result: the mean over the samples, summed over the four prediction sets. -/
def out (x : FVec F S4x1048576x5 .f32) (y : IVec S1048576 32) : FVec F S1 .f32 :=
  shapeCast S1
    (Host.reduceAdd
      (Host.divf (Host.reduceAdd (weighted x y) (constant S_ .f32 0x00000000#32) reducesTo_S4x1048576_S4_d1 h_S_)
        (broadcastInDim S4 ![] bcast_S_S4 (constant S_ .f32 0x49800000#32)))
      (constant S_ .f32 0x00000000#32) reducesTo_S4_S_d0 h_S_)
    shapeCasts_S_S1

/-! ## The run -/

/-- The program's operations, in order. -/
abbrev ops : List (HloOp τ sig (Elt F)) :=
  [ nullary main_c (fun i => lit0 (S5.rowMajor i)),
    nullary main_call0_cst (constant S_ .f32 0xFF800000#32),
    TRef.binary (.of main_arg0 : TRef sig ⟨S4x1048576x5, .f32⟩) (.of main_call0_cst : TRef sig ⟨S_, .f32⟩) (.of main_call0_v0 : TRef sig ⟨S4x1048576, .f32⟩) (fun x v => Host.reduce FloatOps.maximumf x v reducesTo_S4x1048576x5_S4x1048576_d2 h_S_),
    nullary main_call0_cst_0 (constant S_ .f32 0xFF800000#32),
    unary main_call0_cst_0 main_call0_v1 (broadcastInDim S4x1048576 ![] bcast_S_S4x1048576),
    binary main_call0_v1 main_call0_v0 main_call0_v2 maximumf,
    unary main_call0_v2 main_call0_v3 (broadcastInDim S4x1048576x1 ![0, 1] bcast_S4x1048576_S4x1048576x1_0_1),
    unary main_call0_v3 main_call0_v4 (broadcastInDim S4x1048576x5 ![0, 1, 2] bcast_S4x1048576x1_S4x1048576x5_0_1_2),
    binary main_arg0 main_call0_v4 main_call0_v5 subf,
    unary main_call0_v5 main_call0_v6 Host.exp,
    nullary main_call0_cst_1 (constant S_ .f32 0x00000000#32),
    TRef.binary (.of main_call0_v6 : TRef sig ⟨S4x1048576x5, .f32⟩) (.of main_call0_cst_1 : TRef sig ⟨S_, .f32⟩) (.of main_call0_v7 : TRef sig ⟨S4x1048576, .f32⟩) (fun x v => Host.reduceAdd x v reducesTo_S4x1048576x5_S4x1048576_d2 h_S_),
    unary main_call0_v7 main_call0_v8 (broadcastInDim S4x1048576x1 ![0, 1] bcast_S4x1048576_S4x1048576x1_0_1),
    unary main_call0_v8 main_call0_v9 Host.log,
    unary main_call0_v9 main_call0_v10 (broadcastInDim S4x1048576x5 ![0, 1, 2] bcast_S4x1048576x1_S4x1048576x5_0_1_2),
    binary main_call0_v5 main_call0_v10 main_v0 subf,
    unary main_arg1 main_v1 (broadcastInDim S1x1048576x1 ![1] bcast_S1048576_S1x1048576x1_1),
    unary main_v1 main_v2 (broadcastInDim S4x1048576x1 ![0, 1, 2] bcast_S1x1048576x1_S4x1048576x1_0_1_2),
    nullary main_call1_c (constantI S_ 32 0#32),
    unary main_call1_c main_call1_v0 (broadcastInDim S4x1048576x1 ![] bcast_S_S4x1048576x1),
    binary main_v2 main_call1_v0 main_call1_v1 (cmpi .slt),
    nullary main_call1_c_0 (constantI S_ 32 5#32),
    unary main_call1_c_0 main_call1_v2 (broadcastInDim S4x1048576x1 ![] bcast_S_S4x1048576x1),
    binary main_v2 main_call1_v2 main_call1_v3 addi,
    ternary main_call1_v1 main_call1_v3 main_v2 main_call1_v4 select,
    reshape main_call1_v4 main_call1_v5 (rfl : (.i32 : EltTy) = .i32) shapeCasts_S4x1048576x1_S4x1048576x1x1,
    nullary main_call1_c_1 (constantI S1 32 4#32),
    nullary main_call1_c_2 (constantI S_ 32 0#32),
    unary main_call1_c_2 main_call1_v6 (broadcastInDim S4x1048576x1x1 ![] bcast_S_S4x1048576x1x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4x1048576x1x1 ![0, 1, 2, 3] bcast_S1x1x1x1_S4x1048576x1x1_0_1_2_3),
    binary main_call1_v5 main_call1_v9 main_call1_v10 (cmpi .sle),
    binary main_call1_v7 main_call1_v10 main_call1_v11 andi,
    nullary main_call1_c_3 (constantI S_ 1 1#1),
    TRef.binary (.of main_call1_v11 : TRef sig ⟨S4x1048576x1x1, .i1⟩) (.of main_call1_c_3 : TRef sig ⟨S_, .i1⟩) (.of main_call1_v12 : TRef sig ⟨S4x1048576x1, .i1⟩) (fun x v => Host.reduce IntOp.andi x v reducesTo_S4x1048576x1x1_S4x1048576x1_d3 h_S_),
    binary main_v0 main_call1_v5 main_call1_v13 (fun x i => Host.gather gather_S4x1048576x5_S4x1048576x1x1_S4x1048576x1_n_2_01_01_2_3_111 x i),
    nullary main_call1_cst (constant S_ .f32 0x7FC00000#32),
    unary main_call1_cst main_call1_v14 (broadcastInDim S4x1048576x1 ![] bcast_S_S4x1048576x1),
    ternary main_call1_v12 main_call1_v13 main_call1_v14 main_v3 select,
    reshape main_v3 main_v4 (rfl : (.f32 : EltTy) = .f32) shapeCasts_S4x1048576x1_S4x1048576,
    unary main_v4 main_v5 Host.negf,
    nullary main_call2_v0 (iotaInDim S4x1048576x5 32 2),
    nullary main_call2_cst (constant S_ .f32 0xFF800000#32),
    nullary main_call2_c (constantI S_ 32 0#32),
    quaternary main_arg0 main_call2_v0 main_call2_cst main_call2_c main_call2_v1_0 (fun x y u v j => (Host.argReduce reducer_argmax_f32_i32 x y u v reducesTo_S4x1048576x5_S4x1048576_d2 h_S_ j).1),
    quaternary main_arg0 main_call2_v0 main_call2_cst main_call2_c main_v6 (fun x y u v j => (Host.argReduce reducer_argmax_f32_i32 x y u v reducesTo_S4x1048576x5_S4x1048576_d2 h_S_ j).2),
    nullary main_c_0 (constantI S_ 32 0#32),
    unary main_c_0 main_v7 (broadcastInDim S1048576 ![] bcast_S_S1048576),
    binary main_arg1 main_v7 main_v8 (cmpi .slt),
    nullary main_c_1 (constantI S_ 32 5#32),
    unary main_c_1 main_v9 (broadcastInDim S1048576 ![] bcast_S_S1048576),
    binary main_arg1 main_v9 main_v10 addi,
    ternary main_v8 main_v10 main_arg1 main_v11 select,
    unary main_v11 main_v12 (broadcastInDim S1048576x1 ![0] bcast_S1048576_S1048576x1_0),
    binary main_c main_v12 main_v13 (fun x i => Host.gather gather_S5_S1048576x1_S1048576_n_0_n_n_0_1_1 x i),
    unary main_v13 main_v14 (broadcastInDim S1x1048576 ![1] bcast_S1048576_S1x1048576_1),
    nullary main_c_2 (constantI S_ 32 0#32),
    unary main_c_2 main_v15 (broadcastInDim S4x1048576 ![] bcast_S_S4x1048576),
    binary main_v6 main_v15 main_v16 (cmpi .slt),
    nullary main_c_3 (constantI S_ 32 5#32),
    unary main_c_3 main_v17 (broadcastInDim S4x1048576 ![] bcast_S_S4x1048576),
    binary main_v6 main_v17 main_v18 addi,
    ternary main_v16 main_v18 main_v6 main_v19 select,
    unary main_v19 main_v20 (broadcastInDim S4x1048576x1 ![0, 1] bcast_S4x1048576_S4x1048576x1_0_1),
    binary main_c main_v20 main_v21 (fun x i => Host.gather gather_S5_S4x1048576x1_S4x1048576_n_0_n_n_0_2_1 x i),
    unary main_v14 main_v22 (broadcastInDim S4x1048576 ![0, 1] bcast_S1x1048576_S4x1048576_0_1),
    binary main_v22 main_v21 main_v23 (cmpi .ne),
    unary main_v23 main_v24 (uitofp .f32),
    nullary main_cst (constant S_ .f32 0x3F000000#32),
    unary main_cst main_v25 (broadcastInDim S4x1048576 ![] bcast_S_S4x1048576),
    binary main_v25 main_v24 main_v26 mulf,
    nullary main_cst_4 (constant S_ .f32 0x3F800000#32),
    unary main_cst_4 main_v27 (broadcastInDim S4x1048576 ![] bcast_S_S4x1048576),
    binary main_v27 main_v26 main_v28 addf,
    binary main_v5 main_v28 main_v29 mulf,
    nullary main_cst_5 (constant S_ .f32 0x00000000#32),
    binary main_v29 main_cst_5 main_v30 (fun x v => Host.reduceAdd x v reducesTo_S4x1048576_S4_d1 h_S_),
    nullary main_cst_6 (constant S_ .f32 0x49800000#32),
    unary main_cst_6 main_v31 (broadcastInDim S4 ![] bcast_S_S4),
    binary main_v30 main_v31 main_v32 Host.divf,
    nullary main_cst_7 (constant S_ .f32 0x00000000#32),
    binary main_v32 main_cst_7 main_v33 (fun x v => Host.reduceAdd x v reducesTo_S4_S_d0 h_S_),
    reshape main_v33 main_v34 (rfl : (.f32 : EltTy) = .f32) shapeCasts_S_S1 ]

set_option maxRecDepth 65536 in
/-- The program is that straight line. -/
theorem main_eq (c : Dev nD) : main (F := F) c = seq ops := rfl

set_option maxRecDepth 65536 in
/-- The fold of the operations, at the result buffer: -/
theorem out_eq (V : Valuation τ sig (Elt F)) :
    after ops V (main_v34 : DevRef τ sig) = out (V (main_arg0 : DevRef τ sig)) (V (main_arg1 : DevRef τ sig)) := by
  after_results
  simp only [TRef.ofBuf, TRef.toBuf, cast_eq]
  unfold out weighted weight picked inRange predGroup pred labelGroup table classIdx labels logp shifted
  rfl

/-- at the first argument, which no operation writes, -/
theorem arg0_eq (V : Valuation τ sig (Elt F)) :
    after ops V (main_arg0 : DevRef τ sig) = V (main_arg0 : DevRef τ sig) := by
  after_results
/-- and at the second. -/
theorem arg1_eq (V : Valuation τ sig (Elt F)) :
    after ops V (main_arg1 : DevRef τ sig) = V (main_arg1 : DevRef τ sig) := by
  after_results

/-- No buffer is scoped, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., unary_bufs_sub ..,
    binary_bufs_sub .., unary_bufs_sub .., unary_bufs_sub .., nullary_bufs_sub .., unary_bufs_sub ..,
    binary_bufs_sub .., nullary_bufs_sub .., unary_bufs_sub .., binary_bufs_sub .., ternary_bufs_sub ..,
    reshape_bufs_sub .., nullary_bufs_sub .., nullary_bufs_sub .., unary_bufs_sub .., binary_bufs_sub ..,
    unary_bufs_sub .., unary_bufs_sub .., binary_bufs_sub .., binary_bufs_sub .., nullary_bufs_sub ..,
    binary_bufs_sub .., binary_bufs_sub .., nullary_bufs_sub .., unary_bufs_sub .., ternary_bufs_sub ..,
    reshape_bufs_sub .., unary_bufs_sub .., nullary_bufs_sub .., nullary_bufs_sub .., nullary_bufs_sub ..,
    quaternary_bufs_sub .., quaternary_bufs_sub .., nullary_bufs_sub .., unary_bufs_sub .., binary_bufs_sub ..,
    nullary_bufs_sub .., unary_bufs_sub .., binary_bufs_sub .., ternary_bufs_sub .., unary_bufs_sub ..,
    binary_bufs_sub .., unary_bufs_sub .., nullary_bufs_sub .., unary_bufs_sub .., binary_bufs_sub ..,
    nullary_bufs_sub .., unary_bufs_sub .., binary_bufs_sub .., ternary_bufs_sub .., unary_bufs_sub ..,
    binary_bufs_sub .., unary_bufs_sub .., binary_bufs_sub .., unary_bufs_sub .., nullary_bufs_sub ..,
    unary_bufs_sub .., binary_bufs_sub .., nullary_bufs_sub .., unary_bufs_sub .., binary_bufs_sub ..,
    binary_bufs_sub .., nullary_bufs_sub .., binary_bufs_sub .., nullary_bufs_sub .., unary_bufs_sub ..,
    binary_bufs_sub .., nullary_bufs_sub .., binary_bufs_sub .., reshape_bufs_sub ..⟩

/-- From any memory with zero counters every execution of the program terminates with the result buffer at `out` of
    the arguments' launch contents, the arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v34)
            = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v34).trans (out_eq _),
      (h c main_arg0).trans (arg0_eq _), (h c main_arg1).trans (arg1_eq _)⟩, sem_eq_zero_of_no_sems (by decide) r.2⟩)
    (run_seq scopedRefs_eq scopedSems_eq defs main (fun _ => ops) main_eq (fun _ => ops_sub) m ρ)

end Cert.Proof.Ref

end
-- ==== Proof.RefGather.lean ====
/-
  The reference's three table look-ups read at one element: the log-probabilities at the label's class, and the table of
  groups at the label's and at the predicted class. An index in 0 .. 4 is the class it names.
-/
module

public import proofs.«01_k».proof.Proof.RefRun
public import proofs.«01_k».proof.Proof.Spec

@[expose] public section

noncomputable section

namespace Cert.Proof.RefGather

open Cert.ReferenceIdeal Cert.ReferenceIdeal.Gen Cert.Proof.Spec
open Idealize.ShloMosaic Idealize.ShloMosaic.ValueIdx

/-- A class's word, read signed and clamped into 0 .. 4, is the class. -/
theorem clamp_class (k : Fin 5) : min (BitVec.ofNat 32 k.val).toInt.toNat (5 - 1) = k.val := by
  fin_cases k <;> rfl

/-- A class's word is not negative: it is not wrapped. -/
theorem wrap_class (k : Fin 5) :
    Scalar.select (IntOp.cmpi .slt (BitVec.ofNat 32 k.val) 0#32) (IntOp.addi (BitVec.ofNat 32 k.val) 5#32) (BitVec.ofNat 32 k.val)
      = BitVec.ofNat 32 k.val := by
  fin_cases k <;> rfl

/-- The table of groups at a class. -/
theorem table_apply (k : Fin 5) : Ref.table (ix1 k) = grp k := by
  fin_cases k <;> rfl

/-- A look-up in the table by one index per sample. -/
theorem gather_label (x : IVec S5 32) (idx : IVec S1048576x1 32) (b : Fin 1048576) (k : Fin 5)
    (hk : idx (ix2 b (0 : Fin 1)) = BitVec.ofNat 32 k.val) :
    Host.gather gather_S5_S1048576x1_S1048576_n_0_n_n_0_1_1 x idx (ix1 b) = x (ix1 k) := by
  unfold Host.gather
  congr 1
  funext a
  obtain rfl : a = 0 := Subsingleton.elim _ _
  refine Fin.ext ?_
  show (gather_S5_S1048576x1_S1048576_n_0_n_n_0_1_1).start (ix1 b) idx 0
    + (gather_S5_S1048576x1_S1048576_n_0_n_n_0_1_1).batchCoord (ix1 b) 0
    + (gather_S5_S1048576x1_S1048576_n_0_n_n_0_1_1).offCoord (ix1 b) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S5_S1048576x1_S1048576_n_0_n_n_0_1_1).startIndexMap from List.mem_singleton.mpr rfl)]
  have hsi : (gather_S5_S1048576x1_S1048576_n_0_n_n_0_1_1).siIdx (ix1 b)
      ⟨List.idxOf (0 : Fin 1) (gather_S5_S1048576x1_S1048576_n_0_n_n_0_1_1).startIndexMap,
        List.idxOf_lt_length_iff.2 (List.mem_singleton.mpr rfl)⟩ = ix2 b (0 : Fin 1) := by
    funext d; refine Fin.ext ?_
    match d with
    | ⟨0, _⟩ => rfl
    | ⟨1, _⟩ => rfl
  rw [hsi, hk]
  exact clamp_class k

/-- A look-up in the table by one index per prediction set and sample. -/
theorem gather_pred (x : IVec S5 32) (idx : IVec S4x1048576x1 32) (t : Fin 4) (b : Fin 1048576) (k : Fin 5)
    (hk : idx (ix3 t b (0 : Fin 1)) = BitVec.ofNat 32 k.val) :
    Host.gather gather_S5_S4x1048576x1_S4x1048576_n_0_n_n_0_2_1 x idx (ix2 t b) = x (ix1 k) := by
  refine (gather_take_apply (N := 5) (by decide) gather_S5_S4x1048576x1_S4x1048576_n_0_n_n_0_2_1_wf x idx (ix2 t b)).trans
    (congrArg x ?_)
  have e : (takeIdx (ix2 t b) : S4x1048576x1.Idx) = ix3 t b (0 : Fin 1) := by
    funext d
    match d with
    | ⟨0, _⟩ => rfl
    | ⟨1, _⟩ => rfl
    | ⟨2, _⟩ => rfl
  refine congrArg ix1 (Fin.ext ?_)
  show min (idx (takeIdx (ix2 t b))).toInt.toNat (5 - 1) = k.val
  rw [e, hk]
  exact clamp_class k

/-- The scores at one class per prediction set and sample. -/
theorem gather_class {α : Type} (x : S4x1048576x5.Idx → α) (idx : IVec S4x1048576x1x1 32) (t : Fin 4) (b : Fin 1048576) (k : Fin 5)
    (hk : idx (ix4 t b (0 : Fin 1) (0 : Fin 1)) = BitVec.ofNat 32 k.val) :
    Host.gather gather_S4x1048576x5_S4x1048576x1x1_S4x1048576x1_n_2_01_01_2_3_111 x idx (ix3 t b (0 : Fin 1)) = x (ix3 t b k) := by
  unfold Host.gather
  congr 1
  funext a
  refine Fin.ext ?_
  show (gather_S4x1048576x5_S4x1048576x1x1_S4x1048576x1_n_2_01_01_2_3_111).start (ix3 t b (0 : Fin 1)) idx a
    + (gather_S4x1048576x5_S4x1048576x1x1_S4x1048576x1_n_2_01_01_2_3_111).batchCoord (ix3 t b (0 : Fin 1)) a
    + (gather_S4x1048576x5_S4x1048576x1x1_S4x1048576x1_n_2_01_01_2_3_111).offCoord (ix3 t b (0 : Fin 1)) a = (ix3 t b k a).val
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).2 (by decide))]
    unfold GatherDims.start
    rw [dif_neg (by decide)]
    unfold GatherDims.batchCoord
    rw [dif_pos (by decide)]
    exact (Nat.zero_add _).trans rfl
  · rw [GatherDims.offCoord_eq_zero _ _ _ (fun h => ((GatherDims.mem_sKept _ _).mp h).2 (by decide))]
    unfold GatherDims.start
    rw [dif_neg (by decide)]
    unfold GatherDims.batchCoord
    rw [dif_pos (by decide)]
    exact (Nat.zero_add _).trans rfl
  · rw [GatherDims.offCoord_eq_zero _ _ _ (fun h => ((GatherDims.mem_sKept _ _).mp h).1 (by decide)),
      GatherDims.batchCoord_eq_zero _ _ _ (by decide)]
    simp only [Nat.add_zero]
    unfold GatherDims.start
    rw [dif_pos (by decide)]
    have hsi : (gather_S4x1048576x5_S4x1048576x1x1_S4x1048576x1_n_2_01_01_2_3_111).siIdx (ix3 t b (0 : Fin 1))
        ⟨List.idxOf (2 : Fin 3) (gather_S4x1048576x5_S4x1048576x1x1_S4x1048576x1_n_2_01_01_2_3_111).startIndexMap,
          List.idxOf_lt_length_iff.2 (List.mem_singleton.mpr rfl)⟩ = ix4 t b (0 : Fin 1) (0 : Fin 1) := by
      funext d; refine Fin.ext ?_
      match d with
      | ⟨0, _⟩ => rfl
      | ⟨1, _⟩ => rfl
      | ⟨2, _⟩ => rfl
      | ⟨3, _⟩ => rfl
    refine Eq.trans ?_ (clamp_class k)
    rw [← hk, ← hsi]
    rfl

end Cert.Proof.RefGather

end
-- ==== Proof.RefArgmax.lean ====
/-
  The reference's prediction: over five real scores the fold of the comparison of (score, class) pairs ends at the first
  class with the largest score.
-/
module

public import proofs.«01_k».proof.Proof.RefRun
public import proofs.«01_k».proof.Proof.Spec
public import Idealize.ShloMosaic.PureOps.Reduce
public import Idealize.ShloMosaic.PureOps.Ideal.Laws

@[expose] public section

noncomputable section

namespace Cert.Proof.RefArgmax

open Cert.ReferenceIdeal Cert.ReferenceIdeal.Gen Cert.Proof.Spec
open Idealize.ShloMosaic Idealize.ShloMosaic.ValueIdx

/-- One (score, class) pair is at least another: its score is larger, or the scores are equal and its class is no later. -/
def Beats (p q : EReal × BitVec 32) : Prop := q.1 < p.1 ∨ q.1 = p.1 ∧ p.2.toInt ≤ q.2.toInt

theorem Beats.refl (p : EReal × BitVec 32) : Beats p p := .inr ⟨rfl, le_rfl⟩

theorem Beats.trans {p q r : EReal × BitVec 32} (h : Beats p q) (h' : Beats q r) : Beats p r := by
  rcases h with h | ⟨h, hc⟩ <;> rcases h' with h' | ⟨h', hc'⟩
  · exact .inl (h'.trans h)
  · exact .inl (h' ▸ h)
  · exact .inl (h ▸ h')
  · exact .inr ⟨h'.trans h, hc.trans hc'⟩

/-- The comparison of two pairs returns one of them, and that one is at least the other. -/
theorem step (p q : EReal × BitVec 32) :
    (reducer_argmax_f32_i32 (F := Ideal) p q = p ∧ Beats p q) ∨ (reducer_argmax_f32_i32 (F := Ideal) p q = q ∧ Beats q p) := by
  obtain ⟨a, i⟩ := p
  obtain ⟨b, j⟩ := q
  have e : reducer_argmax_f32_i32 (F := Ideal) (a, i) (b, j)
      = (Scalar.select (IntOp.ori (Ideal.cmp .ogt a b) (Ideal.cmp .une a a)) a b,
        Scalar.select (IntOp.ori (IntOp.ori (Ideal.cmp .ogt a b) (Ideal.cmp .une a a))
          (IntOp.andi (Ideal.cmp .oeq a b) (IntOp.cmpi .slt i j))) i j) := rfl
  have hne : Ideal.cmp .une a a = 0#1 := by simp [Ideal.cmp]
  have ho : ∀ z : BitVec 1, IntOp.ori z 0#1 = z := by decide
  rw [e, hne, ho]
  rcases lt_trichotomy b a with h | h | h
  · left
    have h1 : Ideal.cmp .ogt a b = 1#1 := by simp [Ideal.cmp, h]
    have h2 : ∀ z : BitVec 1, IntOp.ori 1#1 z = 1#1 := by decide
    rw [h1, h2, select_one, select_one]
    exact ⟨rfl, .inl h⟩
  · subst h
    have h1 : Ideal.cmp .ogt b b = 0#1 := by simp [Ideal.cmp]
    have h2 : Ideal.cmp .oeq b b = 1#1 := by simp [Ideal.cmp]
    have h3 : ∀ z : BitVec 1, IntOp.ori 0#1 (IntOp.andi 1#1 z) = z := by decide
    rw [h1, h2, h3, select_zero]
    show ((b, Scalar.select (BitVec.ofBool (i.slt j)) i j) = _ ∧ _) ∨ ((b, Scalar.select (BitVec.ofBool (i.slt j)) i j) = _ ∧ _)
    by_cases hij : i.toInt < j.toInt
    · left
      rw [show i.slt j = true by simpa [BitVec.slt] using hij]
      exact ⟨rfl, .inr ⟨rfl, hij.le⟩⟩
    · right
      rw [show i.slt j = false by simpa [BitVec.slt] using hij]
      exact ⟨rfl, .inr ⟨rfl, not_lt.mp hij⟩⟩
  · right
    have h1 : Ideal.cmp .ogt a b = 0#1 := by simp [Ideal.cmp, not_lt.mpr h.le]
    have h2 : Ideal.cmp .oeq a b = 0#1 := by simp [Ideal.cmp, h.ne]
    have h3 : ∀ z : BitVec 1, IntOp.ori 0#1 (IntOp.andi 0#1 z) = 0#1 := by decide
    rw [h1, h2, h3, select_zero, select_zero]
    exact ⟨rfl, .inl h⟩

/-- The fold of the comparison over a list returns the start or a member, at least every one of them. -/
theorem fold (l : List (EReal × BitVec 32)) (p : EReal × BitVec 32) :
    (l.foldl (reducer_argmax_f32_i32 (F := Ideal)) p = p ∨ l.foldl (reducer_argmax_f32_i32 (F := Ideal)) p ∈ l)
      ∧ Beats (l.foldl (reducer_argmax_f32_i32 (F := Ideal)) p) p
      ∧ ∀ q ∈ l, Beats (l.foldl (reducer_argmax_f32_i32 (F := Ideal)) p) q := by
  induction l generalizing p with
  | nil => exact ⟨.inl rfl, Beats.refl p, fun q hq => absurd hq List.not_mem_nil⟩
  | cons q l ih =>
    obtain ⟨h1, h2, h3⟩ := ih (reducer_argmax_f32_i32 (F := Ideal) p q)
    rw [List.foldl_cons]
    rcases step p q with ⟨e, hb⟩ | ⟨e, hb⟩
    · rw [e] at h1 h2 h3 ⊢
      refine ⟨h1.imp id (List.mem_cons_of_mem q), h2, fun r hr => ?_⟩
      rcases List.mem_cons.mp hr with rfl | hr
      · exact h2.trans hb
      · exact h3 r hr
    · rw [e] at h1 h2 h3 ⊢
      refine ⟨.inr (h1.elim (fun h => List.mem_cons.mpr (.inl h)) (List.mem_cons_of_mem q)), h2.trans hb, fun r hr => ?_⟩
      rcases List.mem_cons.mp hr with rfl | hr
      · exact h2
      · exact h3 r hr

theorem reduces : S4x1048576x5.Reduces [2] S4x1048576 := by decide

/-- The index over an element of the reduced array. -/
theorem lift_eq (t : Fin 4) (b : Fin 1048576) (c : Fin 5) : reduces.lift (ix2 t b) c = ix3 t b c := by
  funext d
  match d with
  | ⟨0, _⟩ => rfl
  | ⟨1, _⟩ => rfl
  | ⟨2, _⟩ => rfl

/-- The pairs the fold runs over, for one prediction set and sample, are the five scores with their classes. -/
theorem mem_fiber (x : FVec Ideal S4x1048576x5 .f32) (t : Fin 4) (b : Fin 1048576) (p : EReal × BitVec 32) :
    p ∈ Host.argReduceFiber x (iotaInDim S4x1048576x5 32 2) reducesTo_S4x1048576x5_S4x1048576_d2 (ix2 t b)
      ↔ ∃ c : Fin 5, p = (x (ix3 t b c), BitVec.ofNat 32 c.val) := by
  unfold Host.argReduceFiber
  rw [List.mem_map]
  constructor
  · rintro ⟨n, hn, rfl⟩
    have hd := (List.mem_filter.mp hn).2
    have hd : reduces.drop (S4x1048576x5.rowMajor.symm n) = ix2 t b := by
      have := of_decide_eq_true hd
      rwa [Shape.ReducesTo.drop_eq_drop _ reduces] at this
    have hi : S4x1048576x5.rowMajor.symm n = ix3 t b (S4x1048576x5.rowMajor.symm n 2) := by
      have := reduces.lift_drop (S4x1048576x5.rowMajor.symm n)
      rw [hd] at this
      exact this.symm.trans (lift_eq t b _)
    exact ⟨S4x1048576x5.rowMajor.symm n 2, Prod.ext (congrArg x hi) rfl⟩
  · rintro ⟨c, rfl⟩
    refine ⟨S4x1048576x5.rowMajor (ix3 t b c), List.mem_filter.mpr ⟨List.mem_finRange _, decide_eq_true ?_⟩, ?_⟩
    · rw [Shape.ReducesTo.drop_eq_drop _ reduces, Equiv.symm_apply_apply, ← lift_eq]
      exact reduces.drop_lift _ _
    · rw [Equiv.symm_apply_apply]; rfl

/-- The fold starts below every real. -/
theorem start_eq : ((constant S_ .f32 0xFF800000#32 : FVec Ideal S_ .f32) (Shape.Idx.first h_S_), (constantI S_ 32 0#32 : IVec S_ 32) (Shape.Idx.first h_S_))
    = ((⊥ : EReal), 0#32) := Prod.ext ofBits_neg_inf rfl

/-- A list whose members are five real scores with their classes, folded from below every real: the first class with
the largest score. -/
theorem fold_first (l : List (Ideal .f32 × BitVec 32)) (p : Ideal .f32 × BitVec 32) (v : Fin 5 → ℝ) (hp : p = ((⊥ : EReal), 0#32))
    (hl : ∀ q : EReal × BitVec 32, q ∈ l ↔ ∃ c : Fin 5, q = (((v c : ℝ) : EReal), BitVec.ofNat 32 c.val)) :
    ∃ k : Fin 5, (l.foldl (reducer_argmax_f32_i32 (F := Ideal)) p).2 = BitVec.ofNat 32 k.val
      ∧ (∀ c, v c ≤ v k) ∧ ∀ c, c < k → v c < v k := by
  have hword : ∀ c k : Fin 5, (BitVec.ofNat 32 k.val).toInt ≤ (BitVec.ofNat 32 c.val).toInt → k ≤ c := by decide
  obtain ⟨hmem, -, hall⟩ := fold l p
  generalize l.foldl (reducer_argmax_f32_i32 (F := Ideal)) p = r at hmem hall ⊢
  have hb : ∀ c : Fin 5, Beats r (((v c : ℝ) : EReal), BitVec.ofNat 32 c.val) := fun c => hall _ ((hl _).mpr ⟨c, rfl⟩)
  have hk : ∃ k : Fin 5, r = (((v k : ℝ) : EReal), BitVec.ofNat 32 k.val) := by
    rcases hmem with h | h
    · exfalso
      rw [h, hp] at hb
      rcases hb 0 with h | ⟨h, -⟩
      · exact not_lt_bot h
      · exact EReal.coe_ne_bot _ h
    · exact (hl r).mp h
  obtain ⟨k, rfl⟩ := hk
  refine ⟨k, rfl, fun c => ?_, fun c hc => ?_⟩
  · rcases hb c with h | ⟨h, -⟩
    · exact (EReal.coe_lt_coe_iff.mp h).le
    · exact (EReal.coe_eq_coe_iff.mp h).le
  · rcases hb c with h | ⟨h, hi⟩
    · exact EReal.coe_lt_coe_iff.mp h
    · exact absurd (hword c k hi) (not_le.mpr hc)

/-- The second entries of a family of pairs. -/
def seconds {ι α β : Type} (p : ι → α × β) : ι → β := fun j => (p j).2

/-- The second entries of the reduction to the largest are those of the folds over the fibers. -/
theorem seconds_argReduce {s t u : Shape} {φ : FTy} {axes : List (Fin s.rank)} {β : Type}
    (f : Ideal φ × β → Ideal φ × β → Ideal φ × β) (x : FVec Ideal s φ) (y : s.Idx → β) (ix : u.Idx → Ideal φ) (iy : u.Idx → β)
    (h : s.ReducesTo axes t) (hu : 0 < u.numel) (j : t.Idx) :
    seconds (Host.argReduce f x y ix iy h hu) j
      = ((Host.argReduceFiber x y h j).foldl f (ix (Shape.Idx.first hu), iy (Shape.Idx.first hu))).2 := by
  show (Host.argReduce f x y ix iy h hu j).2 = _
  rw [Ideal.argReduce_eq_reduce2, Host.reduce2_eq_foldl_fiber]

/-- The predictions are the second entries of the reduction to the largest. -/
theorem pred_eq_seconds (x : FVec Ideal S4x1048576x5 .f32) :
    Ref.pred x = seconds (Host.argReduce (reducer_argmax_f32_i32 (F := Ideal)) x (iotaInDim S4x1048576x5 32 2)
      (constant S_ .f32 0xFF800000#32) (constantI S_ 32 0#32) reducesTo_S4x1048576x5_S4x1048576_d2 h_S_) := rfl

/-- The prediction is the first class with the largest score. -/
theorem pred_eq (x : FVec Ideal S4x1048576x5 .f32) (t : Fin 4) (b : Fin 1048576) (v : Fin 5 → ℝ)
    (hv : ∀ c, x (ix3 t b c) = ((v c : ℝ) : EReal)) :
    ∃ k : Fin 5, Ref.pred x (ix2 t b) = BitVec.ofNat 32 k.val ∧ (∀ c, v c ≤ v k) ∧ ∀ c, c < k → v c < v k := by
  rw [pred_eq_seconds, seconds_argReduce]
  exact fold_first _ _ v start_eq fun p => (mem_fiber x t b p).trans (exists_congr fun c => by rw [hv])

end Cert.Proof.RefArgmax

end
-- ==== Proof.RefValue.lean ====
/-
  The number the reference computes: on real scores and labels in 0 .. 4 its result is the mean over the samples, summed
  over the four prediction sets, of the weighted cross entropies.
-/
module

public import proofs.«01_k».proof.Proof.RefGather
public import proofs.«01_k».proof.Proof.RefArgmax
public import Idealize.ShloMosaic.Lib.Pipeline.Value
public import Idealize.ShloMosaic.Lib.IdealHost
public import Idealize.ShloMosaic.Lib.ReduceAll

@[expose] public section

noncomputable section

namespace Cert.Proof.RefValue

open Cert.ReferenceIdeal Cert.ReferenceIdeal.Gen Cert.Proof.Spec
open Idealize.ShloMosaic Idealize.ShloMosaic.ValueIdx

/-! ## The operations read at one element -/

theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl
theorem hostNeg_apply {s : Shape} (a : FVec Ideal s .f32) (i : s.Idx) : Host.negf a i = -(a i) := rfl
theorem hostDiv_apply {s : Shape} (a b : FVec Ideal s .f32) (i : s.Idx) : Host.divf a b i = Ideal.div (a i) (b i) := rfl
theorem wordToReal_apply {s : Shape} (a : IVec s 1) (i : s.Idx) :
    (uitofp .f32 a : FVec Ideal s .f32) i = (((a i).toNat : ℝ) : EReal) := rfl
theorem cmpi_apply {s : Shape} (q : CmpIPredicate) (a b : IVec s 32) (i : s.Idx) : cmpi q a b i = IntOp.cmpi q (a i) (b i) := rfl
theorem addi_apply {s : Shape} (a b : IVec s 32) (i : s.Idx) : addi a b i = IntOp.addi (a i) (b i) := rfl
theorem constantI_apply {s : Shape} (a : BitVec 32) (i : s.Idx) : constantI s 32 a i = a := rfl

/-! ## Repeating an array along new axes -/

/-- One value per prediction set and sample, as a column. -/
theorem column_apply {α : Type} (z : S4x1048576.Idx → α) (t : Fin 4) (b : Fin 1048576) (o : Fin 1) :
    broadcastInDim S4x1048576x1 ![0, 1] bcast_S4x1048576_S4x1048576x1_0_1 z (ix3 t b o) = z (ix2 t b) :=
  broadcastInDim_apply _ _ z _ (ix2 t b) fun a => match a with
    | ⟨0, _⟩ => rfl
    | ⟨1, _⟩ => rfl

/-- A column repeated over the five classes. -/
theorem classes_apply {α : Type} (z : S4x1048576x1.Idx → α) (t : Fin 4) (b : Fin 1048576) (c : Fin 5) :
    broadcastInDim S4x1048576x5 ![0, 1, 2] bcast_S4x1048576x1_S4x1048576x5_0_1_2 z (ix3 t b c) = z (ix3 t b (0 : Fin 1)) :=
  broadcastInDim_apply _ _ z _ (ix3 t b (0 : Fin 1)) fun a => match a with
    | ⟨0, _⟩ => rfl
    | ⟨1, _⟩ => rfl
    | ⟨2, _⟩ => rfl

/-- One value per sample, as a column. -/
theorem sampleColumn_apply {α : Type} (z : S1048576.Idx → α) (b : Fin 1048576) (o : Fin 1) :
    broadcastInDim S1048576x1 ![0] bcast_S1048576_S1048576x1_0 z (ix2 b o) = z (ix1 b) :=
  broadcastInDim_apply _ _ z _ (ix1 b) fun a => match a with
    | ⟨0, _⟩ => rfl

/-- One value per sample, repeated over the prediction sets. -/
theorem sets_apply {α : Type} (z : S1048576.Idx → α) (t : Fin 4) (b : Fin 1048576) :
    broadcastInDim S4x1048576 ![0, 1] bcast_S1x1048576_S4x1048576_0_1
      (broadcastInDim S1x1048576 ![1] bcast_S1048576_S1x1048576_1 z) (ix2 t b) = z (ix1 b) :=
  (broadcastInDim_apply _ _ _ _ (ix2 (0 : Fin 1) b) fun a => match a with
    | ⟨0, _⟩ => rfl
    | ⟨1, _⟩ => rfl).trans
  (broadcastInDim_apply _ _ z _ (ix1 b) fun a => match a with
    | ⟨0, _⟩ => rfl)

/-- The labels, repeated over the prediction sets. -/
theorem labels_apply (y : IVec S1048576 32) (t : Fin 4) (b : Fin 1048576) (o : Fin 1) : Ref.labels y (ix3 t b o) = y (ix1 b) :=
  (broadcastInDim_apply _ _ _ _ (ix3 (0 : Fin 1) b (0 : Fin 1)) fun a => match a with
    | ⟨0, _⟩ => rfl
    | ⟨1, _⟩ => rfl
    | ⟨2, _⟩ => rfl).trans
  (broadcastInDim_apply _ _ y _ (ix1 b) fun a => match a with
    | ⟨0, _⟩ => rfl)

/-! ## The logarithm of the softmax -/

variable (x : FVec Ideal S4x1048576x5 .f32) (y : IVec S1048576 32)

/-- The scores are shifted by a real that does not depend on the class. -/
theorem shifted_apply (t : Fin 4) (b : Fin 1048576) (v : Fin 5 → ℝ) (hv : ∀ c, x (ix3 t b c) = ((v c : ℝ) : EReal)) :
    ∃ M : ℝ, ∀ c, Ref.shifted x (ix3 t b c) = ((v c - M : ℝ) : EReal) := by
  obtain ⟨M, hM⟩ := fold_max_real (fun c : Fin 5 => x (ix3 t b c)) fun c => ⟨v c, hv c⟩
  refine ⟨M, fun c => ?_⟩
  have hr : Host.reduce FloatOps.maximumf x (constant S_ .f32 0xFF800000#32) reducesTo_S4x1048576x5_S4x1048576_d2 h_S_ (ix2 t b)
      = ((M : ℝ) : EReal) := by
    refine (Host.reduce_eq_fold_single (max : EReal → EReal → EReal) x (constant (F := Ideal) S_ .f32 0xFF800000#32)
      reducesTo_S4x1048576x5_S4x1048576_d2 RefArgmax.reduces h_S_ (ix2 t b)).trans ?_
    show Finset.fold max (Ideal.ofBits .f32 0xFF800000#32) _ _ = _
    rw [ofBits_neg_inf, ← hM]
    exact congrArg (fun f => Finset.fold max ⊥ f Finset.univ) (funext fun c => congrArg x (RefArgmax.lift_eq t b c))
  unfold Ref.shifted
  rw [subf_apply, classes_apply, column_apply, maximumf_apply, broadcastInDim_scalar_apply, constant_apply, hr, hv, ofBits_neg_inf,
    max_eq_right bot_le, EReal.coe_sub]

/-- The logarithm of the softmax is the score less the logarithm of the sum of the exponentials. -/
theorem logp_apply (t : Fin 4) (b : Fin 1048576) (v : Fin 5 → ℝ) (hv : ∀ c, x (ix3 t b c) = ((v c : ℝ) : EReal)) (k : Fin 5) :
    Ref.logp x (ix3 t b k) = ((v k - lse v : ℝ) : EReal) := by
  obtain ⟨M, hM⟩ := shifted_apply x t b v hv
  have he : ∀ c : Fin 5, Host.exp (Ref.shifted x) (RefArgmax.reduces.lift (ix2 t b) c) = ((Real.exp (v c - M) : ℝ) : EReal) := fun c => by
    rw [RefArgmax.lift_eq, hostExp_apply, hM, Ideal.exp_coe]
  have hs : Host.reduceAdd (Host.exp (Ref.shifted x)) (constant S_ .f32 0x00000000#32) reducesTo_S4x1048576x5_S4x1048576_d2 h_S_ (ix2 t b)
      = ((∑ c, Real.exp (v c - M) : ℝ) : EReal) := by
    refine (hostReduceAdd_apply _ _ _ _ _).trans ((Ideal.hostReduceAdd_single _ RefArgmax.reduces _ _ _).trans ?_)
    show Ideal.ofBits .f32 0x00000000#32 + _ = _
    rw [Ideal.ofBits_zero_f32, zero_add, ← sum_coe]
    exact Finset.sum_congr rfl fun c _ => he c
  unfold Ref.logp
  rw [subf_apply, classes_apply, hM, hostLog_apply, column_apply, hs, Ideal.log_coe,
    if_neg (sum_exp_pos fun c => v c - M).not_ge, ← EReal.coe_sub, ← log_shift v M]
  exact congrArg Real.toEReal (by ring)

/-! ## The label's log-probability -/

variable (X : Fin 4 → Fin 1048576 → Fin 5 → ℝ) (Y : Fin 1048576 → Fin 5)
  (hx : ∀ t b k, x (ix3 t b k) = ((X t b k : ℝ) : EReal)) (hy : ∀ b, y (ix1 b) = BitVec.ofNat 32 (Y b).val)

include hy in
/-- The class index is the label. -/
theorem classIdx_apply (t : Fin 4) (b : Fin 1048576) (o p : Fin 1) :
    Ref.classIdx y (ix4 t b o p) = BitVec.ofNat 32 (Y b).val := by
  refine (shapeCast_apply _ shapeCasts_S4x1048576x1_S4x1048576x1x1 (ix4 t b o p) (ix3 t b (0 : Fin 1)) ?_).trans ?_
  · rw [Shape.rowMajor_val_three, Shape.rowMajor_val_four]
    show (t.val * 1048576 + b.val) * 1 + 0 = ((t.val * 1048576 + b.val) * 1 + o.val) * 1 + p.val
    omega
  · show Scalar.select (IntOp.cmpi .slt (Ref.labels y (ix3 t b (0 : Fin 1))) 0#32)
      (IntOp.addi (Ref.labels y (ix3 t b (0 : Fin 1))) 5#32) (Ref.labels y (ix3 t b (0 : Fin 1))) = _
    rw [labels_apply, hy]
    exact RefGather.wrap_class (Y b)

include hy in
/-- Every class index is in range. -/
theorem inRange_apply (j : S4x1048576x1.Idx) : Ref.inRange y j = 1#1 := by
  have h : ∀ k : Fin 5, IntOp.andi (IntOp.cmpi .sge (BitVec.ofNat 32 k.val) 0#32) (IntOp.cmpi .sle (BitVec.ofNat 32 k.val) 4#32) = 1#1 := by
    decide
  have hall : ∀ (t : Fin 4) (b : Fin 1048576) (o p : Fin 1), IntOp.andi (IntOp.cmpi .sge (Ref.classIdx y (ix4 t b o p)) 0#32)
      (IntOp.cmpi .sle (Ref.classIdx y (ix4 t b o p)) 4#32) = 1#1 := fun t b o p => by
    rw [classIdx_apply y Y hy]; exact h (Y b)
  refine Host.reduce_andi_one _ _ _ _ j rfl fun i => ?_
  rw [eq_ix4 i]
  exact hall (i 0) (i 1) (i 2) (i 3)

include hx hy in
/-- The log-probability of the label. -/
theorem picked_apply (t : Fin 4) (b : Fin 1048576) :
    Ref.picked x y (ix3 t b (0 : Fin 1)) = ((X t b (Y b) - lse (X t b) : ℝ) : EReal) := by
  unfold Ref.picked
  rw [select_apply, inRange_apply y Y hy, select_one, RefGather.gather_class _ _ t b (Y b) (classIdx_apply y Y hy t b 0 0)]
  exact logp_apply x t b (X t b) (hx t b) (Y b)

/-! ## The weight -/

include hy in
/-- The group of the label. -/
theorem labelGroup_apply (b : Fin 1048576) : Ref.labelGroup y (ix1 b) = grp (Y b) := by
  refine (RefGather.gather_label _ _ b (Y b) ?_).trans (RefGather.table_apply (Y b))
  rw [sampleColumn_apply]
  show Scalar.select (IntOp.cmpi .slt (y (ix1 b)) 0#32) (IntOp.addi (y (ix1 b)) 5#32) (y (ix1 b)) = _
  rw [hy]
  exact RefGather.wrap_class (Y b)

include hx in
/-- The group of the predicted class. -/
theorem predGroup_apply (t : Fin 4) (b : Fin 1048576) : Ref.predGroup x (ix2 t b) = predGrp (X t b) := by
  obtain ⟨k, hk, hle, hlt⟩ := RefArgmax.pred_eq x t b (X t b) (hx t b)
  rw [predGrp_eq_grp (X t b) k hle hlt]
  refine (RefGather.gather_pred _ _ t b k ?_).trans (RefGather.table_apply k)
  rw [column_apply]
  show Scalar.select (IntOp.cmpi .slt (Ref.pred x (ix2 t b)) 0#32) (IntOp.addi (Ref.pred x (ix2 t b)) 5#32)
    (Ref.pred x (ix2 t b)) = _
  rw [hk]
  exact RefGather.wrap_class k

/-- The bit of two words differing, as a number. -/
theorem uitofp_ne (p q : BitVec 32) :
    (((IntOp.cmpi .ne p q).toNat : ℝ) : EReal) = (((if p = q then 0 else 1 : ℝ)) : EReal) := by
  show (((BitVec.ofBool (p != q)).toNat : ℝ) : EReal) = _
  by_cases h : p = q
  · subst h; simp
  · rw [if_neg h, show (p != q) = true from bne_iff_ne.mpr h]; simp

include hx hy in
/-- The weight is one and a half where the groups differ, else one. -/
theorem weight_apply (t : Fin 4) (b : Fin 1048576) : Ref.weight x y (ix2 t b) = ((wt (X t b) (Y b) : ℝ) : EReal) := by
  unfold Ref.weight
  rw [addf_apply, mulf_apply, wordToReal_apply, cmpi_apply, sets_apply, labelGroup_apply y Y hy, predGroup_apply x X hx, uitofp_ne,
    broadcastInDim_scalar_apply, broadcastInDim_scalar_apply, constant_apply, constant_apply, ofBits_one, ofBits_half,
    ← EReal.coe_mul, ← EReal.coe_add, wt_eq]

/-! ## The result -/

include hx hy in
/-- The weighted cross entropy of one sample in one prediction set. -/
theorem weighted_apply (t : Fin 4) (b : Fin 1048576) : Ref.weighted x y (ix2 t b) = ((term (X t b) (Y b) : ℝ) : EReal) := by
  unfold Ref.weighted
  rw [mulf_apply, hostNeg_apply, shapeCast_apply _ shapeCasts_S4x1048576x1_S4x1048576 (ix2 t b) (ix3 t b (0 : Fin 1)) (by
      rw [Shape.rowMajor_val_three, Shape.rowMajor_val_two]
      show (t.val * 1048576 + b.val) * 1 + 0 = t.val * 1048576 + b.val
      omega),
    picked_apply x y X Y hx hy, weight_apply x y X Y hx hy, ← EReal.coe_neg, ← EReal.coe_mul]
  exact congrArg Real.toEReal (by unfold term; ring)

theorem reduces_samples : S4x1048576.Reduces [1] S4 := by decide

include hx hy in
/-- One prediction set's mean. -/
theorem mean_apply (t : Fin 4) :
    Host.divf (Host.reduceAdd (Ref.weighted x y) (constant S_ .f32 0x00000000#32) reducesTo_S4x1048576_S4_d1 h_S_)
      (broadcastInDim S4 ![] bcast_S_S4 (constant S_ .f32 0x49800000#32)) (ix1 t)
      = (((∑ b, term (X t b) (Y b)) / 1048576 : ℝ) : EReal) := by
  have hl : ∀ b : Fin 1048576, Ref.weighted x y (reduces_samples.lift (ix1 t) b) = ((term (X t b) (Y b) : ℝ) : EReal) := fun b => by
    refine (congrArg (Ref.weighted x y) (?_ : reduces_samples.lift (ix1 t) b = ix2 t b)).trans (weighted_apply x y X Y hx hy t b)
    funext d
    match d with
    | ⟨0, _⟩ => rfl
    | ⟨1, _⟩ => rfl
  have hs : Host.reduceAdd (Ref.weighted x y) (constant S_ .f32 0x00000000#32) reducesTo_S4x1048576_S4_d1 h_S_ (ix1 t)
      = ((∑ b, term (X t b) (Y b) : ℝ) : EReal) := by
    refine (hostReduceAdd_apply _ _ _ _ _).trans ((Ideal.hostReduceAdd_single _ reduces_samples _ _ _).trans ?_)
    show Ideal.ofBits .f32 0x00000000#32 + _ = _
    rw [Ideal.ofBits_zero_f32, zero_add, ← sum_coe]
    exact Finset.sum_congr rfl fun b _ => hl b
  rw [hostDiv_apply, hs, broadcastInDim_scalar_apply, constant_apply, ofBits_batch, Ideal.div_coe (by norm_num),
    ← EReal.coe_mul, mul_one_div]

/-- The indices of the four means are the prediction sets. -/
def setEquiv : S4.Idx ≃ Fin 4 where
  toFun i := i 0
  invFun t := ix1 t
  left_inv i := (eq_ix1 i).symm
  right_inv _ := rfl

include hx hy in
/-- The reference's result. -/
theorem out_eq : Ref.out x y = fun _ => ((result X Y : ℝ) : EReal) := by
  funext i
  refine (shapeCast_apply _ shapeCasts_S_S1 i ix0 ?_).trans ?_
  · have h1 := (S_.rowMajor ix0).isLt
    have h2 := (S1.rowMajor i).isLt
    have e1 : S_.numel = 1 := by decide
    have e2 : S1.numel = 1 := by decide
    omega
  refine (hostReduceAdd_apply _ _ _ _ _).trans ((Ideal.hostReduceAdd_total _ (fun b => b.elim0) _ _ _).trans ?_)
  let mean : Fin 4 → EReal := fun t => (((∑ b, term (X t b) (Y b)) / 1048576 : ℝ) : EReal)
  have hm : ∀ i : S4.Idx, Host.divf (Host.reduceAdd (Ref.weighted x y) (constant S_ .f32 0x00000000#32) reducesTo_S4x1048576_S4_d1 h_S_)
      (broadcastInDim S4 ![] bcast_S_S4 (constant S_ .f32 0x49800000#32)) i
      = mean (setEquiv i) := fun i =>
    (congrArg _ (eq_ix1 i)).trans (mean_apply x y X Y hx hy (i 0))
  rw [constant_apply, Ideal.ofBits_zero_f32, zero_add, Fintype.sum_equiv setEquiv _ mean hm]
  show ∑ t : Fin 4, (((∑ b, term (X t b) (Y b)) / 1048576 : ℝ) : EReal) = _
  rw [sum_coe, ← Finset.sum_div, Finset.sum_comm]
  rfl

end Cert.Proof.RefValue

end
-- ==== Proof.Pre.lean ====
/-
  What the precondition says of the arguments: the scores are real numbers and the labels are the words 0 .. 4.
-/
module

public import proofs.«01_k».proof.Proof.Gen.Pre_finite_and_labelled
public import Idealize.ShloMosaic.Lib.ValueIdx
public import Idealize.ShloMosaic.Lib.ReduceAll
public import Idealize.ShloMosaic.PureOps.Ideal.Laws

@[expose] public section

noncomputable section

namespace Cert.Proof.Pre

open Cert.Pre_finite_and_labelled Cert.Pre_finite_and_labelled.Gen
open Idealize.ShloMosaic Idealize.ShloMosaic.ValueIdx

instance : Subsingleton S_.Idx := ⟨fun a b => funext fun d => d.elim0⟩

/-- An extended real whose absolute value is below infinity is a real. -/
theorem real_of_abs (z : EReal) (h : Ideal.cmp .olt (max z (-z)) (Ideal.ofBits .f32 0x7F800000#32) = 1#1) :
    ∃ r : ℝ, z = (r : EReal) := by
  have htop : Ideal.ofBits .f32 0x7F800000#32 = ⊤ := by simp [Ideal.ofBits, Ideal.ieee]
  rw [htop] at h
  have hlt : max z (-z) < ⊤ := by
    by_contra hn
    have : Ideal.cmp .olt (max z (-z)) ⊤ = 0#1 := by simp [Ideal.cmp, hn]
    rw [this] at h
    exact absurd h (by decide)
  induction z with
  | bot => simp at hlt
  | top => simp at hlt
  | coe r => exact ⟨r, rfl⟩

/-- A word that is 0 or more and less than 5 is a class. -/
theorem class_of_range (z : BitVec 32) (h0 : IntOp.cmpi .sge z 0#32 = 1#1) (h5 : IntOp.cmpi .slt z 5#32 = 1#1) :
    ∃ k : Fin 5, z = BitVec.ofNat 32 k.val := by
  have h0 := IntOp.cmpi_sge.mp h0
  have h5 := IntOp.cmpi_slt.mp h5
  have e0 : (0#32 : BitVec 32).toInt = 0 := rfl
  have e5 : (5#32 : BitVec 32).toInt = 5 := rfl
  rw [e0] at h0
  rw [e5] at h5
  have hn : z.toNat < 5 := by
    rw [BitVec.toInt_eq_toNat_cond] at h0 h5
    have := z.isLt
    split at h0 <;> simp_all <;> omega
  exact ⟨⟨z.toNat, hn⟩, by simp⟩

variable (x : FVec Ideal S4x1048576x5 .f32) (y : IVec S1048576 32) (h : ∀ i, fn (F := Ideal) x y i = 1#1)

include h in
/-- The scores are real numbers. -/
theorem scores_real : ∃ X : Fin 4 → Fin 1048576 → Fin 5 → ℝ, ∀ t b k, x (ix3 t b k) = ((X t b k : ℝ) : EReal) := by
  have h1 := (IntOp.andi_eq_one.mp (h ix0)).1
  have h2 : ∀ i, ∃ r : ℝ, x i = (r : EReal) := fun i =>
    real_of_abs (x i) (Host.reduce_andi_all _ _ _ _ ix0 h1 i)
  choose r hr using h2
  exact ⟨fun t b k => r (ix3 t b k), fun t b k => hr _⟩

include h in
/-- The labels are classes. -/
theorem labels_classes : ∃ Y : Fin 1048576 → Fin 5, ∀ b, y (ix1 b) = BitVec.ofNat 32 (Y b).val := by
  have h1 := (IntOp.andi_eq_one.mp (h ix0)).2
  have h2 : ∀ b : Fin 1048576, ∃ k : Fin 5, y (ix1 b) = BitVec.ofNat 32 k.val := fun b => by
    have h3 := Host.reduce_andi_all _ _ _ _ ix0 h1 (ix1 b)
    obtain ⟨ha, hb⟩ := IntOp.andi_eq_one.mp h3
    exact class_of_range _ ha hb
  choose Y hY using h2
  exact ⟨Y, hY⟩

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_labelled
public import proofs.«01_k».proof.Proof.Fold
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- Every execution of the reference terminates with its arguments unchanged and every semaphore at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run _ _ _).mono (fun _ h => ⟨fun c => (h.1 c).2, h.2⟩) (Ref.run m g)

/-- On real scores and labels in 0 .. 4 the kernel's result and the reference's are the same number. -/
theorem same_result : algebraic_KernelIdeal_ReferenceIdeal_pre_finite_and_labelled
    (hKernelIdeal := Cert.KernelIdeal.Gen.facts) (hReferenceIdeal := Cert.ReferenceIdeal.Gen.facts)
    (hPre_finite_and_labelled := Cert.Pre_finite_and_labelled.Gen.facts) := by
  intro m g m' g' hpre hagree
  have hX : ∀ c : Dev Cert.KernelIdeal.nD, ∃ X : Fin 4 → Fin 1048576 → Fin 5 → ℝ, ∀ t b k,
      m ((c.tc : Thread Cert.KernelIdeal.nD Cert.KernelIdeal.τ).loc Cert.KernelIdeal.main_arg0) (ix3 t b k) = ((X t b k : ℝ) : EReal) :=
    fun c => Pre.scores_real _ _ (fun i => congrFun (hpre c) i)
  have hY : ∀ c : Dev Cert.KernelIdeal.nD, ∃ Y : Fin 1048576 → Fin 5, ∀ b,
      m ((c.tc : Thread Cert.KernelIdeal.nD Cert.KernelIdeal.τ).loc Cert.KernelIdeal.main_arg1) (ix1 b) = BitVec.ofNat 32 (Y b).val :=
    fun c => Pre.labels_classes _ _ (fun i => congrFun (hpre c) i)
  choose X hX using hX
  choose Y hY using hY
  refine ⟨fun c => fun _ => ((Spec.result (X c) (Y c) : ℝ) : EReal), ?_, ?_⟩
  · exact (θ_run _ _ _).mono (fun _ h c => ⟨(h c).1.trans (Fold.result_eq m c (X c) (Y c) (hX c) (hY c)), (h c).2⟩) (Fold.run m g)
  · refine (θ_run _ _ _).mono (fun _ h c => ⟨(h.1 c).1.trans ?_, (h.1 c).2⟩) (Ref.run m' g')
    rw [(hagree c).1, (hagree c).2]
    exact RefValue.out_eq _ _ (X c) (Y c) (hX c) (hY c)

theorem claim : Cert.Claim :=
  ⟨Cert.Kernel.Gen.facts, Cert.KernelIdeal.Gen.facts, Cert.ReferenceIdeal.Gen.facts, Cert.Pre_finite_and_labelled.Gen.facts,
    fun m ρ _ => Cert.Kernel.Gen.frame m ρ, fun m ρ _ => Cert.KernelIdeal.Gen.frame m ρ, fun m ρ _ => Cert.KernelIdeal.Gen.frame m ρ,
    fun m g _ => ref_frame m g, fun m g _ => ref_frame m g, trivial, same_result⟩

end Cert.Proof

end
